-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x4096 : Shape := ⟨3, ![2, 512, 4096]⟩
abbrev S4096x3584 : Shape := ⟨2, ![4096, 3584]⟩
abbrev S3584 : Shape := ⟨1, ![3584]⟩
abbrev S1024x4096 : Shape := ⟨2, ![1024, 4096]⟩
abbrev S1x3584 : Shape := ⟨2, ![1, 3584]⟩
abbrev S1024x1 : Shape := ⟨2, ![1024, 1]⟩
abbrev S1024x1792 : Shape := ⟨2, ![1024, 1792]⟩
abbrev S256x4096 : Shape := ⟨2, ![256, 4096]⟩
abbrev S256x1 : Shape := ⟨2, ![256, 1]⟩
abbrev S256x1792 : Shape := ⟨2, ![256, 1792]⟩
abbrev S256 : Shape := ⟨1, ![256]⟩
abbrev S1x255 : Shape := ⟨2, ![1, 255]⟩
abbrev S256x255 : Shape := ⟨2, ![256, 255]⟩
abbrev S4096x256 : Shape := ⟨2, ![4096, 256]⟩
abbrev S256x256 : Shape := ⟨2, ![256, 256]⟩
abbrev S1x256 : Shape := ⟨2, ![1, 256]⟩

abbrev nBuf : Space → Nat
  | .hbm => 9
  | .vmem => 13
  | .smem => 0
  | _ => 0

abbrev bufTy : (tb : Table) → Fin (tcTables nBuf tb) → BufTy
  | .hbm, ⟨0, _⟩ => ⟨S2x512x4096, .bf16⟩
  | .hbm, ⟨1, _⟩ => ⟨S4096x3584, .fp8e4m3⟩
  | .hbm, ⟨2, _⟩ => ⟨S3584, .f32⟩
  | .hbm, ⟨3, _⟩ => ⟨S1024x4096, .bf16⟩
  | .hbm, ⟨4, _⟩ => ⟨S1x3584, .f32⟩
  | .hbm, ⟨5, _⟩ => ⟨S1024x1, .f32⟩
  | .hbm, ⟨6, _⟩ => ⟨S1024x1792, .fp8e4m3⟩
  | .hbm, ⟨7, _⟩ => ⟨S1024x4096, .fp8e4m3⟩
  | .hbm, ⟨8, _⟩ => ⟨S1024x1, .f32⟩
  | .local _ .vmem, ⟨0, _⟩ => ⟨S256x4096, .bf16⟩
  | .local _ .vmem, ⟨1, _⟩ => ⟨S256x4096, .bf16⟩
  | .local _ .vmem, ⟨2, _⟩ => ⟨S4096x3584, .fp8e4m3⟩
  | .local _ .vmem, ⟨3, _⟩ => ⟨S1x3584, .f32⟩
  | .local _ .vmem, ⟨4, _⟩ => ⟨S256x1, .f32⟩
  | .local _ .vmem, ⟨5, _⟩ => ⟨S256x1, .f32⟩
  | .local _ .vmem, ⟨6, _⟩ => ⟨S256x1792, .fp8e4m3⟩
  | .local _ .vmem, ⟨7, _⟩ => ⟨S256x1792, .fp8e4m3⟩
  | .local _ .vmem, ⟨8, _⟩ => ⟨S256x4096, .fp8e4m3⟩
  | .local _ .vmem, ⟨9, _⟩ => ⟨S256x4096, .fp8e4m3⟩
  | .local _ .vmem, ⟨10, _⟩ => ⟨S256x1, .f32⟩
  | .local _ .vmem, ⟨11, _⟩ => ⟨S256x1, .f32⟩
  | .local _ .vmem, ⟨12, _⟩ => ⟨S256x1792, .f32⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x512x4096 : Shape := ⟨3, ![2, 512, 4096]⟩
abbrev S4096x3584 : Shape := ⟨2, ![4096, 3584]⟩
abbrev S3584 : Shape := ⟨1, ![3584]⟩
abbrev S1024x4096 : Shape := ⟨2, ![1024, 4096]⟩
abbrev S1x3584 : Shape := ⟨2, ![1, 3584]⟩
abbrev S1024x1 : Shape := ⟨2, ![1024, 1]⟩
abbrev S1024x1792 : Shape := ⟨2, ![1024, 1792]⟩
abbrev S1024 : Shape := ⟨1, ![1024]⟩
abbrev S1024x3584 : Shape := ⟨2, ![1024, 3584]⟩

abbrev nBuf : Space → Nat
  | .hbm => 9
  | .vmem => 7
  | .smem => 0
  | _ => 0

abbrev bufTy : (tb : Table) → Fin (tcTables nBuf tb) → BufTy
  | .hbm, ⟨0, _⟩ => ⟨S2x512x4096, .bf16⟩
  | .hbm, ⟨1, _⟩ => ⟨S4096x3584, .fp8e4m3⟩
  | .hbm, ⟨2, _⟩ => ⟨S3584, .f32⟩
  | .hbm, ⟨3, _⟩ => ⟨S1024x4096, .bf16⟩
  | .hbm, ⟨4, _⟩ => ⟨S1x3584, .f32⟩
  | .hbm, ⟨5, _⟩ => ⟨S1024x1, .f32⟩
  | .hbm, ⟨6, _⟩ => ⟨S1024x1792, .fp8e4m3⟩
  | .hbm, ⟨7, _⟩ => ⟨S1024x4096, .fp8e4m3⟩
  | .hbm, ⟨8, _⟩ => ⟨S1024x1, .f32⟩
  | .local _ .vmem, ⟨0, _⟩ => ⟨S1024x4096, .bf16⟩
  | .local _ .vmem, ⟨1, _⟩ => ⟨S4096x3584, .fp8e4m3⟩
  | .local _ .vmem, ⟨2, _⟩ => ⟨S1x3584, .f32⟩
  | .local _ .vmem, ⟨3, _⟩ => ⟨S1024x1, .f32⟩
  | .local _ .vmem, ⟨4, _⟩ => ⟨S1024x1792, .fp8e4m3⟩
  | .local _ .vmem, ⟨5, _⟩ => ⟨S1024x4096, .fp8e4m3⟩
  | .local _ .vmem, ⟨6, _⟩ => ⟨S1024x1, .f32⟩
  | _, _ => ⟨S2x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
module

public import Idealize.ShloMosaic.Lib.Pointwise

/-!
# The power-of-two scale of one row

Both programs quantise a row by a power of two. From the row's largest magnitude `a` they take
`t = a / 448` (by one multiplication) and the power of two just above `t`.

* The kernel finds the exponent of `t` by counting: how many of the 255 powers `2^-126, …, 2^127, ∞`
  are at most `t`. It then writes the exponent into the exponent field of a word.
* The reference takes `⌊log2 t⌋ + 1` and raises two to it.

This module says both in terms of one extended real `a` and proves that for `0 ≤ a` the two scales
agree, and the two inverse scales agree.
-/

@[expose] public section
noncomputable section
namespace Cert.Exponent
open Idealize.ShloMosaic

/-- The row's largest magnitude times the single-precision number nearest to `1/448`. -/
def scaled (a : EReal) : EReal := a * Ideal.ofBits .f32 0x3B124925#32

/-- The `x`-th power of two that the kernel compares with: exponent field `x + 1`, no fraction. -/
def power (x : Fin 255) : EReal :=
  Ideal.ofBits .f32 (IntOp.shli .vector (IntOp.addi (BitVec.ofNat 32 ↑x) 1#32) 23#32)

/-- The kernel's count of the powers that are at most `t`. -/
def count (a : EReal) : BitVec 32 :=
  Finset.univ.fold IntOp.addi 0#32 fun x : Fin 255 => if scaled a < power x then 0#32 else 1#32

/-- The kernel's exponent. -/
def kExp (a : EReal) : BitVec 32 :=
  Scalar.select
    (IntOp.ori (IntOp.ori (IntOp.cmpi .eq (count a) 0#32) (IntOp.cmpi .eq (count a) 255#32))
      (BitVec.ofBool (decide (a = 0))))
    0#32 (IntOp.subi (count a) 126#32)

/-- The word of the kernel's `2^n`. -/
def kBits (n : BitVec 32) : BitVec 32 :=
  Scalar.select (IntOp.cmpi .sle (IntOp.addi n 127#32) 0#32) 0#32
    (IntOp.shli .vector
      (Scalar.select (IntOp.cmpi .sge (IntOp.addi n 127#32) 255#32) 255#32 (IntOp.addi n 127#32)) 23#32)

/-- The kernel's `2^n`: zero below the normal numbers, infinity above them. -/
def kPow2 (n : BitVec 32) : EReal := Ideal.ofBits .f32 (kBits n)

/-- The reference's exponent. -/
def refExp (a : EReal) : EReal :=
  if a = 0 then 0
  else Scalar.select
    (IntOp.ori (BitVec.ofBool (decide (scaled a < Ideal.ofBits .f32 0x00800000#32)))
      (BitVec.ofBool (decide (scaled a = Ideal.ofBits .f32 0x7F800000#32)))) 0
    (Ideal.liftRound Int.floor
        (Ideal.div (Ideal.log (scaled a)) (Ideal.log (Ideal.ofBits .f32 0x40000000#32)))
      + Ideal.ofBits .f32 0x3F800000#32)

/-- The reference's scale of an exponent. -/
def refScale (e : EReal) : EReal :=
  if Ideal.ofBits .f32 0x43000000#32 ≤ e then Ideal.ofBits .f32 0x7F800000#32 else Ideal.exp2 e

/-- The reference's inverse scale of an exponent. -/
def refInv (e : EReal) : EReal :=
  if Ideal.ofBits .f32 0x42FC0000#32 < e then 0 else Ideal.exp2 (0 - e)

/-! ## Constants -/

theorem fields : ∀ k : Fin 256,
    ((BitVec.ofNat 32 k <<< 23).extractLsb' 31 1 == 1#1) = false
      ∧ ((BitVec.ofNat 32 k <<< 23).extractLsb' 23 8).toNat = k
      ∧ ((BitVec.ofNat 32 k <<< 23).extractLsb' 0 23).toNat = 0 := by
  decide +kernel

/-- A word that holds only the exponent field `k` denotes zero, a power of two or infinity. -/
theorem ofBits_exponent (k : Nat) (hk : k < 256) :
    Ideal.ofBits .f32 (BitVec.ofNat 32 k <<< 23)
      = if k = 255 then ⊤ else if k = 0 then 0 else (((2 : ℝ) ^ ((k : ℤ) - 127) : ℝ) : EReal) := by
  obtain ⟨h1, h2, h3⟩ := fields ⟨k, hk⟩
  simp only at h1 h2 h3
  unfold Ideal.ofBits Ideal.ieee
  simp only [h1, h2, h3]
  by_cases a : k = 255
  · subst a
    norm_num
  rw [if_neg (by norm_num; exact a), if_neg a]
  by_cases b : k = 0
  · subst b
    norm_num
  rw [if_neg b, if_neg b]
  refine congrArg Real.toEReal ?_
  have e : (k : ℤ) - (2 ^ (8 - 1) - 1) - ((23 : ℕ) : ℤ) = ((k : ℤ) - 127) - 23 := by norm_num
  rw [e, zpow_sub₀ (by norm_num)]
  norm_num
  exact mul_div_cancel₀ _ (by norm_num)

theorem ofBits_two : Ideal.ofBits .f32 0x40000000#32 = ((2 : ℝ) : EReal) := by
  have := ofBits_exponent 128 (by norm_num)
  norm_num at this
  exact_mod_cast this

theorem ofBits_tiny : Ideal.ofBits .f32 0x00800000#32 = (((2 : ℝ) ^ (-126 : ℤ) : ℝ) : EReal) := by
  have := ofBits_exponent 1 (by norm_num)
  rw [if_neg (by norm_num), if_neg (by norm_num)] at this
  exact this

theorem ofBits_inf : Ideal.ofBits .f32 0x7F800000#32 = ⊤ := by
  have := ofBits_exponent 255 (by norm_num)
  rw [if_pos rfl] at this
  exact this

theorem ofBits_128 : Ideal.ofBits .f32 0x43000000#32 = ((128 : ℝ) : EReal) := by
  have := ofBits_exponent 134 (by norm_num)
  norm_num at this
  exact_mod_cast this

theorem ofBits_126 : Ideal.ofBits .f32 0x42FC0000#32 = ((126 : ℝ) : EReal) := by
  have h1 : ((0x42FC0000#32 : BitVec 32).extractLsb' 31 1 == 1#1) = false := by decide
  have h2 : ((0x42FC0000#32 : BitVec 32).extractLsb' 23 8).toNat = 133 := by decide
  have h3 : ((0x42FC0000#32 : BitVec 32).extractLsb' 0 23).toNat = 0x7C0000 := by decide
  unfold Ideal.ofBits Ideal.ieee
  simp only [h1, h2, h3]
  norm_num

theorem ofBits_one : Ideal.ofBits .f32 0x3F800000#32 = ((1 : ℝ) : EReal) := by
  have := ofBits_exponent 127 (by norm_num)
  norm_num at this
  exact_mod_cast this

/-- The factor `1/448` is a positive real. -/
theorem ofBits_factor : ∃ c : ℝ, 0 < c ∧ Ideal.ofBits .f32 0x3B124925#32 = (c : EReal) := by
  have h1 : ((0x3B124925#32 : BitVec 32).extractLsb' 31 1 == 1#1) = false := by decide
  have h2 : ((0x3B124925#32 : BitVec 32).extractLsb' 23 8).toNat = 118 := by decide
  unfold Ideal.ofBits Ideal.ieee
  simp only [h1, h2]
  rw [if_neg (by norm_num), if_neg (by norm_num)]
  refine ⟨_, ?_, rfl⟩
  have h3 : ((0x3B124925#32 : BitVec 32).extractLsb' 0 23).toNat = 0x124925 := by decide
  rw [h3, if_neg (by simp)]
  positivity

/-! ## The kernel's count -/

theorem power_eq (x : Fin 255) :
    power x = if (x : Nat) = 254 then ⊤ else (((2 : ℝ) ^ (((x : ℕ) : ℤ) - 126) : ℝ) : EReal) := by
  have hx := x.isLt
  have hb : IntOp.shli .vector (IntOp.addi (BitVec.ofNat 32 ↑x) 1#32) 23#32
      = BitVec.ofNat 32 ((x : Nat) + 1) <<< 23 := by
    have : ∀ x : Fin 255, IntOp.shli .vector (IntOp.addi (BitVec.ofNat 32 ↑x) 1#32) 23#32
      = BitVec.ofNat 32 ((x : Nat) + 1) <<< 23 := by decide +kernel
    exact this x
  rw [power, hb, ofBits_exponent _ (by omega)]
  by_cases a : (x : Nat) = 254
  · rw [if_pos (by omega), if_pos a]
  · rw [if_neg (by omega), if_neg (by omega), if_neg a]
    congr 2
    push_cast
    ring

/-- A fold by addition of words that are zero or one is the number of the ones. -/
theorem fold_eq_card {ι : Type} (p : ι → Prop) [DecidablePred p] (S : Finset ι) :
    S.fold IntOp.addi 0#32 (fun k => if p k then 0#32 else 1#32)
      = BitVec.ofNat 32 (S.filter fun k => ¬ p k).card := by
  classical
  induction S using Finset.induction_on with
  | empty => rfl
  | insert a S ha ih =>
    rw [Finset.fold_insert ha, ih, Finset.filter_insert]
    by_cases h : p a
    · simp [h, IntOp.addi]
    · rw [if_neg h, if_pos h, Finset.card_insert_of_notMem (fun hm => ha (Finset.mem_filter.1 hm).1)]
      show 1#32 + BitVec.ofNat 32 _ = BitVec.ofNat 32 (_ + 1)
      rw [BitVec.ofNat_add, BitVec.add_comm]

theorem card_lt (n : Nat) (hn : n ≤ 255) :
    (Finset.univ.filter fun x : Fin 255 => (x : Nat) < n).card = n := by
  have := Fin.card_filter_val_lt (n := 255) (m := n)
  simpa [hn] using this

/-- If the powers that are at most `t` are the first `n`, the count is `n`. -/
theorem count_eq (a : EReal) (n : Nat) (hn : n ≤ 255)
    (h : ∀ x : Fin 255, ¬ scaled a < power x ↔ (x : Nat) < n) : count a = BitVec.ofNat 32 n := by
  classical
  unfold count
  rw [fold_eq_card (fun x : Fin 255 => scaled a < power x)]
  rw [Finset.filter_congr (fun x _ => h x), card_lt n hn]

theorem kExp_of_count (a : EReal) (n : Nat) (h1 : 1 ≤ n) (h2 : n ≤ 254) (ha : a ≠ 0)
    (hc : count a = BitVec.ofNat 32 n) : kExp a = BitVec.ofNat 32 n - 126#32 := by
  have : ∀ n : Fin 255, 1 ≤ (n : Nat) →
      IntOp.ori (IntOp.ori (IntOp.cmpi .eq (BitVec.ofNat 32 n) 0#32)
        (IntOp.cmpi .eq (BitVec.ofNat 32 n) 255#32)) (BitVec.ofBool false) = 0#1 := by decide +kernel
  have := this ⟨n, by omega⟩ h1
  simp only at this
  rw [kExp, hc, decide_eq_false ha, this]
  rfl

theorem kBits_exp (n : Nat) (h1 : 1 ≤ n) (h2 : n ≤ 254) :
    kBits (BitVec.ofNat 32 n - 126#32) = BitVec.ofNat 32 (n + 1) <<< 23 := by
  have : ∀ n : Fin 255, 1 ≤ (n : Nat) →
      kBits (BitVec.ofNat 32 n - 126#32) = BitVec.ofNat 32 (n + 1) <<< 23 := by decide +kernel
  exact this ⟨n, by omega⟩ h1

theorem kBits_neg (n : Nat) (h1 : 1 ≤ n) (h2 : n ≤ 254) :
    kBits (IntOp.subi 0#32 (BitVec.ofNat 32 n - 126#32)) = BitVec.ofNat 32 (253 - n) <<< 23 := by
  have : ∀ n : Fin 255, 1 ≤ (n : Nat) →
      kBits (IntOp.subi 0#32 (BitVec.ofNat 32 n - 126#32)) = BitVec.ofNat 32 (253 - n) <<< 23 := by
    decide +kernel
  exact this ⟨n, by omega⟩ h1

/-! ## The two rows of scales -/

theorem exp2_int (z : ℤ) : Ideal.exp2 (((z : ℝ)) : EReal) = (((2 : ℝ) ^ z : ℝ) : EReal) := by
  show ((Real.rpow 2 z : ℝ) : EReal) = _
  congr 1
  exact Real.rpow_intCast 2 z

/-- Exponent zero: scale one and inverse scale one, in both programs. -/
theorem zero_case (a : EReal) (hk : kExp a = 0#32) (hr : refExp a = 0) :
    kPow2 (kExp a) = refScale (refExp a) ∧ kPow2 (IntOp.subi 0#32 (kExp a)) = refInv (refExp a) := by
  have hb : kBits 0#32 = BitVec.ofNat 32 127 <<< 23 := by decide
  have hb' : IntOp.subi 0#32 0#32 = 0#32 := by decide
  have h1 : kPow2 0#32 = 1 := by
    rw [kPow2, hb, ofBits_exponent _ (by norm_num)]
    norm_num
  have h2 : Ideal.exp2 (0 : EReal) = 1 := by
    have := exp2_int 0
    simpa using this
  rw [hk, hr, hb', h1, refScale, refInv, ofBits_128, ofBits_126]
  have e1 : ¬ ((128 : ℝ) : EReal) ≤ 0 := by
    rw [← EReal.coe_zero, EReal.coe_le_coe_iff]; norm_num
  have e2 : ¬ ((126 : ℝ) : EReal) < 0 := by
    rw [← EReal.coe_zero, EReal.coe_lt_coe_iff]; norm_num
  rw [if_neg e1, if_neg e2, sub_zero, h2]
  exact ⟨rfl, rfl⟩

/-- An integer is at most the rounded-down logarithm exactly if its power is at most the number. -/
theorem zpow_le_iff (z : ℤ) (r : ℝ) (hpos : 0 < r) :
    (2 : ℝ) ^ z ≤ r ↔ z ≤ ⌊Real.log r * (1 / Real.log 2)⌋ := by
  have hlog2 : 0 < Real.log 2 := Real.log_pos (by norm_num)
  rw [Int.le_floor, mul_one_div, le_div_iff₀ hlog2, ← Real.log_zpow,
    Real.log_le_log_iff (by positivity) hpos]

/-- A normal `t`: the exponent is `⌊log2 t⌋ + 1` on both sides, with the same overflow. -/
theorem normal_case (a : EReal) (ha : a ≠ 0) (r : ℝ) (hr : scaled a = (r : EReal))
    (hle : (2 : ℝ) ^ (-126 : ℤ) ≤ r) :
    kPow2 (kExp a) = refScale (refExp a) ∧ kPow2 (IntOp.subi 0#32 (kExp a)) = refInv (refExp a) := by
  have hpos : 0 < r := lt_of_lt_of_le (by positivity) hle
  obtain ⟨L, hfl⟩ : ∃ L : ℤ, ⌊Real.log r * (1 / Real.log 2)⌋ = L := ⟨_, rfl⟩
  have hlog : ∀ z : ℤ, (2 : ℝ) ^ z ≤ r ↔ z ≤ L := fun z => by rw [← hfl]; exact zpow_le_iff z r hpos
  have hL1 : -126 ≤ L := (hlog _).1 hle
  -- the count
  set n : Nat := min 254 (L + 127).toNat with hn
  have hn1 : 1 ≤ n := by omega
  have hn2 : n ≤ 254 := by omega
  have hc : count a = BitVec.ofNat 32 n := by
    refine count_eq a n (by omega) fun x => ?_
    have hx := x.isLt
    rw [hr, power_eq, not_lt]
    split_ifs with h
    · constructor
      · intro h'; exact absurd (top_le_iff.1 h') (EReal.coe_ne_top r)
      · intro h'; omega
    · rw [EReal.coe_le_coe_iff, hlog]
      omega
  have hk := kExp_of_count a n hn1 hn2 ha hc
  -- the reference's exponent
  have he : refExp a = (((L + 1 : ℤ) : ℝ) : EReal) := by
    have c1 : ¬ ((r : ℝ) : EReal) < ((2 : ℝ) ^ (-126 : ℤ) : ℝ) := by
      rw [EReal.coe_lt_coe_iff]; exact not_lt.2 hle
    have c2 : ¬ ((r : ℝ) : EReal) = ⊤ := EReal.coe_ne_top r
    have hlog2 : Real.log 2 ≠ 0 := (Real.log_pos (by norm_num)).ne'
    have l1 : Ideal.log (r : EReal) = (Real.log r : EReal) := by
      show (if r ≤ 0 then (⊥ : EReal) else (Real.log r : EReal)) = _
      rw [if_neg (not_le.2 hpos)]
    have l2 : Ideal.log ((2 : ℝ) : EReal) = (Real.log 2 : EReal) := by
      show (if (2 : ℝ) ≤ 0 then (⊥ : EReal) else (Real.log 2 : EReal)) = _
      rw [if_neg (by norm_num)]
    have hsel : IntOp.ori (BitVec.ofBool false) (BitVec.ofBool false) = 0#1 := by decide
    rw [refExp, if_neg ha, hr, ofBits_tiny, ofBits_inf, ofBits_two, ofBits_one,
      decide_eq_false c1, decide_eq_false c2, hsel, l1, l2, Ideal.div_coe hlog2]
    show Ideal.liftRound Int.floor ((Real.log r : EReal) * ((1 / Real.log 2 : ℝ) : EReal)) + ((1 : ℝ) : EReal) = _
    rw [← EReal.coe_mul]
    show (((⌊Real.log r * (1 / Real.log 2)⌋ : ℤ) : ℝ) : EReal) + ((1 : ℝ) : EReal) = _
    rw [hfl, ← EReal.coe_add]
    push_cast
    rfl
  rw [hk, he, kPow2, kPow2, kBits_exp n hn1 hn2, kBits_neg n hn1 hn2,
    ofBits_exponent _ (by omega), ofBits_exponent _ (by omega), refScale, refInv,
    ofBits_128, ofBits_126, ofBits_inf, exp2_int]
  have hneg : (0 : EReal) - (((L + 1 : ℤ) : ℝ) : EReal) = (((-(L + 1) : ℤ) : ℝ) : EReal) := by
    rw [← EReal.coe_zero, ← EReal.coe_sub, zero_sub, Int.cast_neg]
  rw [hneg, exp2_int]
  have i1 : (128 : ℝ) ≤ ((L + 1 : ℤ) : ℝ) ↔ 128 ≤ L + 1 := by exact_mod_cast Iff.rfl
  have i2 : (126 : ℝ) < ((L + 1 : ℤ) : ℝ) ↔ 126 < L + 1 := by exact_mod_cast Iff.rfl
  simp only [EReal.coe_le_coe_iff, EReal.coe_lt_coe_iff, i1, i2]
  constructor
  · by_cases b : n = 254
    · rw [if_pos (by omega), if_pos (by omega)]
    · rw [if_neg (by omega), if_neg (by omega), if_neg (by omega)]
      refine congrArg (fun z : ℤ => (((2 : ℝ) ^ z : ℝ) : EReal)) ?_
      omega
  · rw [if_neg (by omega)]
    by_cases b : 253 - n = 0
    · rw [if_pos b, if_pos (by omega)]
    · rw [if_neg b, if_neg (by omega)]
      refine congrArg (fun z : ℤ => (((2 : ℝ) ^ z : ℝ) : EReal)) ?_
      omega

/-- For a magnitude `a ≥ 0` the kernel's scale is the reference's, and so is the inverse. -/
theorem scales_agree (a : EReal) (h0 : 0 ≤ a) :
    kPow2 (kExp a) = refScale (refExp a) ∧ kPow2 (IntOp.subi 0#32 (kExp a)) = refInv (refExp a) := by
  have sel1 : ∀ c : BitVec 32, c = 0#32 ∨ c = 255#32 → ∀ b : Bool,
      IntOp.ori (IntOp.ori (IntOp.cmpi .eq c 0#32) (IntOp.cmpi .eq c 255#32)) (BitVec.ofBool b) = 1#1 := by
    rintro c (rfl | rfl) <;> decide
  have kz : count a = 0#32 ∨ count a = 255#32 → kExp a = 0#32 := by
    intro h
    rw [kExp, sel1 _ h]
    rfl
  by_cases ha : a = 0
  · refine zero_case a ?_ (by rw [refExp, if_pos ha])
    have sel0 : ∀ u v : BitVec 1, IntOp.ori (IntOp.ori u v) (BitVec.ofBool true) = 1#1 := by decide
    rw [kExp, decide_eq_true ha, sel0]
    rfl
  have hpos : 0 < a := lt_of_le_of_ne h0 (Ne.symm ha)
  obtain ⟨c, hc, hf⟩ := ofBits_factor
  -- `t` is infinite, or a nonnegative real
  by_cases htop : a = ⊤
  · have ht : scaled a = ⊤ := by
      rw [scaled, hf, htop, EReal.top_mul_coe_of_pos hc]
    refine zero_case a (kz (.inr ?_)) ?_
    · refine count_eq a 255 le_rfl fun x => ?_
      rw [ht]
      simp
    · have so : ∀ u : BitVec 1, IntOp.ori u (BitVec.ofBool true) = 1#1 := by decide
      rw [refExp, if_neg ha, ht, ofBits_inf, decide_eq_true rfl, so]
      rfl
  · lift a to ℝ using ⟨htop, (lt_of_lt_of_le EReal.bot_lt_zero h0).ne'⟩
    have ha' : 0 < a := by exact_mod_cast hpos
    have ht : scaled (a : EReal) = ((a * c : ℝ) : EReal) := by rw [scaled, hf, EReal.coe_mul]
    by_cases hs : (2 : ℝ) ^ (-126 : ℤ) ≤ a * c
    · exact normal_case _ ha _ ht hs
    · refine zero_case _ (kz (.inl ?_)) ?_
      · refine count_eq _ 0 (by norm_num) fun x => ?_
        rw [ht, power_eq, not_lt]
        split_ifs with h
        · exact iff_of_false (fun h' => EReal.coe_ne_top _ (top_le_iff.1 h')) (by omega)
        · rw [EReal.coe_le_coe_iff]
          refine iff_of_false (fun h' => hs (le_trans ?_ h')) (by omega)
          exact zpow_le_zpow_right₀ (by norm_num) (by omega)
      · have so : ∀ u : BitVec 1, IntOp.ori (BitVec.ofBool true) u = 1#1 := by decide
        have hl : ((a * c : ℝ) : EReal) < (((2 : ℝ) ^ (-126 : ℤ) : ℝ) : EReal) := by
          rw [EReal.coe_lt_coe_iff]; exact not_le.1 hs
        rw [refExp, if_neg ha, ht, ofBits_tiny, decide_eq_true hl, so]
        rfl

end Cert.Exponent
-- ==== Proof.Row.lean ====
module

public import proofs.«01_k».proof.Proof.Exponent

/-!
# What one row of the four results is

Every result of both programs is computed row by row: row `t` of the activations `x`, with the whole
weight codes `w` and their scales `s`, gives row `t` of each result. This module names those rows as
plain functions of extended reals, with the reference's scale and inverse scale:

* `xScale`, `xCode`: the scale and the codes of the activations' row;
* `gatedRow`: the gated product of the row, 1792 numbers;
* `hScale`, `hCode`: the scale and the codes of that.

It also proves that the running maximum of seven chunks of 256 columns, started from zero, is the
maximum over all 1792 columns.
-/

@[expose] public section
noncomputable section
namespace Cert.Row
open Idealize.ShloMosaic Cert.Exponent

/-- The largest magnitude of a row. -/
def rowMax {n : Nat} (f : Fin n → EReal) : EReal :=
  Finset.univ.fold max (Ideal.ofBits .f32 0xFF800000#32) fun k => FloatOps.absf (F := Ideal) (φ := .f32) (f k)

/-- One code: the value times the inverse scale, clipped to ±448. -/
def code (v inv : EReal) : EReal :=
  min (Ideal.ofBits .f32 0x43E00000#32) (max (Ideal.ofBits .f32 0xC3E00000#32) (v * inv))

/-- The scale of a row whose largest magnitude is `a`. -/
def scale (a : EReal) : EReal := refScale (refExp a)

/-- Its inverse scale. -/
def inv (a : EReal) : EReal := refInv (refExp a)

/-- The scale of one row of the activations. -/
def xScale (x : Fin 4096 → EReal) : EReal := scale (rowMax x)

/-- The codes of one row of the activations. -/
def xCode (x : Fin 4096 → EReal) (k : Fin 4096) : EReal := code (x k) (inv (rowMax x))

/-- One column of the row's product with the weights, scaled back: codes `c`, row scale `a`. -/
def column (c : Fin 4096 → EReal) (a : EReal) (w : Fin 4096 → EReal) (s : EReal) : EReal :=
  (∑ k, c k * w k) * a * s

/-- The gate through its logistic, times the up projection. -/
def gated (g u : EReal) : EReal := g * Ideal.logistic g * u

/-- The gated product of a row with codes `c` and scale `a`: column `l` against column `1792 + l`. -/
def gatedRowOf (c : Fin 4096 → EReal) (a : EReal) (w : Fin 4096 → Fin 3584 → EReal) (s : Fin 3584 → EReal)
    (l : Fin 1792) : EReal :=
  gated (column c a (fun k => w k ⟨l, by omega⟩) (s ⟨l, by omega⟩))
    (column c a (fun k => w k ⟨1792 + l, by omega⟩) (s ⟨1792 + l, by omega⟩))

/-- The gated product of one row of the activations. -/
def gatedRow (x : Fin 4096 → EReal) (w : Fin 4096 → Fin 3584 → EReal) (s : Fin 3584 → EReal) : Fin 1792 → EReal :=
  gatedRowOf (xCode x) (xScale x) w s

/-- The scale of the gated row. -/
def hScale (x : Fin 4096 → EReal) (w : Fin 4096 → Fin 3584 → EReal) (s : Fin 3584 → EReal) : EReal :=
  scale (rowMax (gatedRow x w s))

/-- The codes of the gated row. -/
def hCode (x : Fin 4096 → EReal) (w : Fin 4096 → Fin 3584 → EReal) (s : Fin 3584 → EReal) (l : Fin 1792) : EReal :=
  code (gatedRow x w s l) (inv (rowMax (gatedRow x w s)))

/-! ## Maxima -/

theorem rowMax_le {n : Nat} (f : Fin n → EReal) (c : EReal) :
    rowMax f ≤ c ↔ Ideal.ofBits .f32 0xFF800000#32 ≤ c
      ∧ ∀ k, FloatOps.absf (F := Ideal) (φ := .f32) (f k) ≤ c := by
  unfold rowMax
  rw [Finset.fold_max_le]
  simp

theorem abs_nonneg (v : EReal) : 0 ≤ (FloatOps.absf (F := Ideal) (φ := .f32) v : EReal) := by
  show (0 : EReal) ≤ max v (-v)
  rcases le_total 0 v with h | h
  · exact le_max_of_le_left h
  · exact le_max_of_le_right (EReal.neg_nonneg.2 h)

theorem rowMax_nonneg {n : Nat} (hn : 0 < n) (f : Fin n → EReal) : 0 ≤ rowMax f :=
  le_trans (abs_nonneg (f ⟨0, hn⟩)) (((rowMax_le f _).1 le_rfl).2 ⟨0, hn⟩)

/-- The kernel's scale of a nonempty row. -/
theorem kPow2_rowMax {n : Nat} (hn : 0 < n) (f : Fin n → EReal) :
    kPow2 (kExp (rowMax f)) = scale (rowMax f) := (scales_agree _ (rowMax_nonneg hn f)).1

/-- The kernel's inverse scale of a nonempty row. -/
theorem kPow2_neg_rowMax {n : Nat} (hn : 0 < n) (f : Fin n → EReal) :
    kPow2 (IntOp.subi 0#32 (kExp (rowMax f))) = inv (rowMax f) := (scales_agree _ (rowMax_nonneg hn f)).2

/-- Chunk `j` of a row of 1792: its 256 columns from `256 j`. -/
def chunk (f : Fin 1792 → EReal) (o : Nat) (ho : o + 256 ≤ 1792) (l : Fin 256) : EReal := f ⟨o + l, by omega⟩

/-- Zero, then the seven chunk maxima one after another: the maximum of the whole row. -/
theorem rowMax_chunks (f : Fin 1792 → EReal) :
    max (max (max (max (max (max (max 0
      (rowMax (chunk f 0 (by omega)))) (rowMax (chunk f 256 (by omega)))) (rowMax (chunk f 512 (by omega))))
      (rowMax (chunk f 768 (by omega)))) (rowMax (chunk f 1024 (by omega)))) (rowMax (chunk f 1280 (by omega))))
      (rowMax (chunk f 1536 (by omega))) = rowMax f := by
  refine eq_of_forall_ge_iff fun c => ?_
  simp only [max_le_iff, rowMax_le]
  constructor
  · rintro ⟨⟨⟨⟨⟨⟨⟨_, b, h0⟩, _, h1⟩, _, h2⟩, _, h3⟩, _, h4⟩, _, h5⟩, _, h6⟩
    refine ⟨b, fun k => ?_⟩
    have hk := k.isLt
    have key : ∀ (o : Nat) (ho : o + 256 ≤ 1792), o ≤ k → (k : Nat) < o + 256 →
        (∀ l, FloatOps.absf (F := Ideal) (φ := .f32) (chunk f o ho l) ≤ c) →
        FloatOps.absf (F := Ideal) (φ := .f32) (f k) ≤ c := by
      intro o ho h1 h2 h
      have e : chunk f o ho ⟨k - o, by omega⟩ = f k := congrArg f (Fin.ext (by show o + (k - o) = k; omega))
      rw [← e]
      exact h _
    by_cases c0 : (k : Nat) < 256
    · exact key 0 (by omega) (by omega) (by omega) h0
    by_cases c1 : (k : Nat) < 512
    · exact key 256 (by omega) (by omega) (by omega) h1
    by_cases c2 : (k : Nat) < 768
    · exact key 512 (by omega) (by omega) (by omega) h2
    by_cases c3 : (k : Nat) < 1024
    · exact key 768 (by omega) (by omega) (by omega) h3
    by_cases c4 : (k : Nat) < 1280
    · exact key 1024 (by omega) (by omega) (by omega) h4
    by_cases c5 : (k : Nat) < 1536
    · exact key 1280 (by omega) (by omega) (by omega) h5
    · exact key 1536 (by omega) (by omega) (by omega) h6
  · rintro ⟨b, h⟩
    exact ⟨⟨⟨⟨⟨⟨⟨le_trans (abs_nonneg (f 0)) (h 0), b, fun _ => h _⟩, b, fun _ => h _⟩, b, fun _ => h _⟩,
      b, fun _ => h _⟩, b, fun _ => h _⟩, b, fun _ => h _⟩, b, fun _ => h _⟩

end Cert.Row
-- ==== Proof.Payload.lean ====
module

public import proofs.«01_k».proof.Proof.Gen.KernelIdeal.Frame
public import proofs.«01_k».proof.Proof.Row

/-!
# The kernel's stored values, read at an index

One grid step of the kernel holds 256 rows of the activations. This module reads the values that the
step computes at a row (and a column) and states them by the row functions of `Row.lean`. The
generated names `k0_payN` are the step's intermediate vectors.
-/

@[expose] public section
set_option maxRecDepth 65536
noncomputable section
namespace Cert.KernelIdeal.Payload
open Cert.KernelIdeal Cert.KernelIdeal.Gen Idealize.ShloMosaic Idealize.ShloMosaic.Tactic Idealize.ShloMosaic.TcCoe Idealize.SL.Sem
open Cert.Exponent Cert.Row

/-! ## The exponent of a column of magnitudes -/

/-- The count of the powers of two that are at most each `t`. -/
def countV (a : FVec Ideal S256x1 .f32) : IVec S256x1 32 :=
  shapeCast S256x1
    (multiReductionI .add [1] S256
      (select
        (cmpf .olt
          (broadcastTo S256x255 (mulf a (broadcast S256x1 (Scalar.ofBits .f32 0x3B124925#32))) broadcasts_S256x1_S256x255)
          (broadcastTo S256x255
            (bitcastToFloat .f32
              (shli (addi (iota .tc S1x255 32 [1] iota_S1x255_d1_w32) (broadcast S1x255 1#32)) (broadcast S1x255 23#32)))
            broadcasts_S1x255_S256x255))
        (broadcast S256x255 0#32) (broadcast S256x255 1#32))
      0#32 reduces_S256x255_S256 rfl)
    shapeCasts_S256_S256x1

theorem countV_apply (a : FVec Ideal S256x1 .f32) (r : Fin 256) : countV a (ix2 r 0) = count (a (ix2 r 0)) := by
  unfold countV
  pointwise
  rfl

/-- The exponents: zero where the count is 0 or 255 or the magnitude is zero. -/
def expV (a : FVec Ideal S256x1 .f32) : IVec S256x1 32 :=
  select
    (ori (ori (cmpi .eq (countV a) (broadcast S256x1 0#32)) (cmpi .eq (countV a) (broadcast S256x1 255#32)))
      (cmpf .oeq a (broadcast S256x1 (Scalar.ofBits .f32 0x00000000#32))))
    (broadcast S256x1 0#32) (subi (countV a) (broadcast S256x1 126#32))

theorem expV_apply (a : FVec Ideal S256x1 .f32) (r : Fin 256) : expV a (ix2 r 0) = kExp (a (ix2 r 0)) := by
  have h := countV_apply a r
  unfold expV
  generalize countV a = n at h ⊢
  pointwise
  rw [h]
  rfl

/-! ## The activations' scale and codes -/

/-- The rows' largest magnitudes. -/
def maxX (x0 : Vec Ideal S256x4096 .bf16) : FVec Ideal S256x1 .f32 :=
  shapeCast S256x1
    (multiReduction .maximumf [1] S256 (absf (k0_pay2 x0)) 0xFF800000#32 reduces_S256x4096_S256 (.inl rfl) rfl)
    shapeCasts_S256_S256x1

/-- Row `r` of the step's activations. -/
def xRow (x0 : Vec Ideal S256x4096 .bf16) (r : Fin 256) (k : Fin 4096) : EReal := x0 (ix2 r k)

theorem pay2_apply (x0 : Vec Ideal S256x4096 .bf16) (r : Fin 256) (k : Fin 4096) :
    k0_pay2 (F := Ideal) x0 (ix2 r k) = xRow x0 r k := by
  pointwise [k0_pay2]
  rfl

theorem maxX_apply (x0 : Vec Ideal S256x4096 .bf16) (r : Fin 256) : maxX x0 (ix2 r 0) = rowMax (xRow x0 r) := by
  have h := pay2_apply x0 r
  unfold maxX
  generalize k0_pay2 (F := Ideal) x0 = y at h ⊢
  pointwise
  simp only [h]
  rfl

theorem pay3_eq (x0 : Vec Ideal S256x4096 .bf16) : k0_pay3 (F := Ideal) x0 = expV (maxX x0) := rfl

theorem pay3_apply (x0 : Vec Ideal S256x4096 .bf16) (r : Fin 256) :
    k0_pay3 (F := Ideal) x0 (ix2 r 0) = kExp (rowMax (xRow x0 r)) := by
  rw [pay3_eq, expV_apply, maxX_apply]

/-- The scales of a column of exponents. -/
def scaleV (e : IVec S256x1 32) : FVec Ideal S256x1 .f32 :=
  k0_pay7 (addi e (broadcast S256x1 127#32))
    (select (cmpi .sge (addi e (broadcast S256x1 127#32)) (broadcast S256x1 255#32)) (broadcast S256x1 255#32)
      (addi e (broadcast S256x1 127#32))) k0_pay6

theorem scaleV_apply (e : IVec S256x1 32) (r : Fin 256) : scaleV e (ix2 r 0) = kPow2 (e (ix2 r 0)) := by
  unfold scaleV k0_pay7 k0_pay6
  pointwise
  rfl

theorem pay7_eq (x0 : Vec Ideal S256x4096 .bf16) :
    k0_pay7 (F := Ideal) (k0_pay4 (F := Ideal) x0) (k0_pay5 (F := Ideal) x0) k0_pay6 = scaleV (k0_pay3 (F := Ideal) x0) := rfl

/-- The stored scale of row `r`. -/
theorem xScale_apply (x0 : Vec Ideal S256x4096 .bf16) (r : Fin 256) :
    k0_pay7 (F := Ideal) (k0_pay4 (F := Ideal) x0) (k0_pay5 (F := Ideal) x0) k0_pay6 (ix2 r 0) = xScale (xRow x0 r) := by
  rw [pay7_eq, scaleV_apply, pay3_apply]
  exact kPow2_rowMax (by norm_num) _

theorem pay8_apply (y : FVec Ideal S256x4096 .f32) (e : IVec S256x1 32) (r : Fin 256) (k : Fin 4096) :
    k0_pay8 (F := Ideal) y e (ix2 r k) = code (y (ix2 r k)) (kPow2 (IntOp.subi 0#32 (e (ix2 r 0)))) := by
  pointwise [k0_pay8]
  rfl

/-- The stored codes of row `r`. -/
theorem xCode_apply (x0 : Vec Ideal S256x4096 .bf16) (r : Fin 256) (k : Fin 4096) :
    k0_pay8 (F := Ideal) (k0_pay2 (F := Ideal) x0) (k0_pay3 (F := Ideal) x0) (ix2 r k) = xCode (xRow x0 r) k := by
  rw [pay8_apply, pay2_apply, pay3_apply, kPow2_neg_rowMax (by norm_num)]
  rfl

/-! ## One chunk of 256 columns of the gated product -/

theorem pay16_apply (xs : FVec Ideal S256x1 .f32) (xc : FVec Ideal S256x4096 .fp8e4m3)
    (wg wu : Vec Ideal S4096x256 .fp8e4m3) (sg su : Vec Ideal S1x256 .f32) (r : Fin 256) (l : Fin 256) :
    k0_pay16 (F := Ideal) xs xc wg wu sg su (ix2 r l)
      = gated (column (fun k => xc (ix2 r k)) (xs (ix2 r 0)) (fun k => wg (ix2 k l)) (sg (ix2 0 l)))
          (column (fun k => xc (ix2 r k)) (xs (ix2 r 0)) (fun k => wu (ix2 k l)) (su (ix2 0 l))) := by
  pointwise [k0_pay16]
  rfl

/-- The weights as a function of row and column. -/
def wFun (x1 : Vec Ideal S4096x3584 .fp8e4m3) (k : Fin 4096) (j : Fin 3584) : EReal := x1 (ix2 k j)

/-- The weights' scales as a function of the column. -/
def sFun (x2 : Vec Ideal S1x3584 .f32) (j : Fin 3584) : EReal := x2 (ix2 0 j)

/-- The gated product of row `r` of the step. -/
def hRow (xs : FVec Ideal S256x1 .f32) (xc : FVec Ideal S256x4096 .fp8e4m3) (x1 : Vec Ideal S4096x3584 .fp8e4m3)
    (x2 : Vec Ideal S1x3584 .f32) (r : Fin 256) : Fin 1792 → EReal :=
  gatedRowOf (fun k => xc (ix2 r k)) (xs (ix2 r 0)) (wFun x1) (sFun x2)

/-- Chunk at column `o` of the gated product, as the step computes it: `o'` is the column of its up half. -/
def hChunk (xs : FVec Ideal S256x1 .f32) (xc : FVec Ideal S256x4096 .fp8e4m3) (x1 : Vec Ideal S4096x3584 .fp8e4m3)
    (x2 : Vec Ideal S1x3584 .f32) (o o' : Nat)
    (i1 : ∀ a, (![0, o] : Fin 2 → Nat) a + (![4096, 256] : Fin 2 → Nat) a ≤ S4096x3584.size a)
    (i2 : ∀ a, (![0, o'] : Fin 2 → Nat) a + (![4096, 256] : Fin 2 → Nat) a ≤ S4096x3584.size a)
    (i3 : ∀ a, (![0, o] : Fin 2 → Nat) a + (![1, 256] : Fin 2 → Nat) a ≤ S1x3584.size a)
    (i4 : ∀ a, (![0, o'] : Fin 2 → Nat) a + (![1, 256] : Fin 2 → Nat) a ≤ S1x3584.size a) :
    FVec Ideal S256x256 .f32 :=
  k0_pay16 (F := Ideal) xs xc (View.ld x1 (Rect.unit ![0, o] ![4096, 256] i1)) (View.ld x1 (Rect.unit ![0, o'] ![4096, 256] i2))
    (View.ld x2 (Rect.unit ![0, o] ![1, 256] i3)) (View.ld x2 (Rect.unit ![0, o'] ![1, 256] i4))

theorem hChunk_apply (xs : FVec Ideal S256x1 .f32) (xc : FVec Ideal S256x4096 .fp8e4m3) (x1 : Vec Ideal S4096x3584 .fp8e4m3)
    (x2 : Vec Ideal S1x3584 .f32) (o o' : Nat) (i1 i2 i3 i4) (ho : o + 256 ≤ 1792) (ho' : o' = 1792 + o)
    (r l : Fin 256) :
    hChunk xs xc x1 x2 o o' i1 i2 i3 i4 (ix2 r l) = chunk (hRow xs xc x1 x2 r) o ho l := by
  subst ho'
  have e1 : ∀ k, View.ld x1 (Rect.unit ![0, o] ![4096, 256] i1) (ix2 k l) = wFun x1 k ⟨o + l, by omega⟩ := fun k =>
    congrArg x1 (funext fun a => Fin.ext (by
      fin_cases a
      · show 0 + 1 * (k : Nat) = (k : Nat); omega
      · show o + 1 * (l : Nat) = o + l; omega))
  have e2 : ∀ k, View.ld x1 (Rect.unit ![0, 1792 + o] ![4096, 256] i2) (ix2 k l) = wFun x1 k ⟨1792 + (o + l), by omega⟩ := fun k =>
    congrArg x1 (funext fun a => Fin.ext (by
      fin_cases a
      · show 0 + 1 * (k : Nat) = (k : Nat); omega
      · show 1792 + o + 1 * (l : Nat) = 1792 + (o + l); omega))
  have e3 : View.ld x2 (Rect.unit ![0, o] ![1, 256] i3) (ix2 0 l) = sFun x2 ⟨o + l, by omega⟩ :=
    congrArg x2 (funext fun a => Fin.ext (by
      fin_cases a
      · show 0 + 1 * 0 = 0; omega
      · show o + 1 * (l : Nat) = o + l; omega))
  have e4 : View.ld x2 (Rect.unit ![0, 1792 + o] ![1, 256] i4) (ix2 0 l) = sFun x2 ⟨1792 + (o + l), by omega⟩ :=
    congrArg x2 (funext fun a => Fin.ext (by
      fin_cases a
      · show 0 + 1 * 0 = 0; omega
      · show 1792 + o + 1 * (l : Nat) = 1792 + (o + l); omega))
  rw [hChunk, pay16_apply]
  simp only [e1, e2, e3, e4]
  rfl

/-! ## The running maximum -/

/-- One more chunk in the running maximum. -/
def runMax (p : FVec Ideal S256x1 .f32) (h : FVec Ideal S256x256 .f32) : FVec Ideal S256x1 .f32 :=
  maximumf p
    (shapeCast S256x1
      (multiReduction .maximumf [1] S256 (absf h) 0xFF800000#32 reduces_S256x256_S256 (.inl rfl) rfl)
      shapeCasts_S256_S256x1)

theorem runMax_apply (p : FVec Ideal S256x1 .f32) (h : FVec Ideal S256x256 .f32) (r : Fin 256) :
    runMax p h (ix2 r 0) = max (p (ix2 r 0)) (rowMax fun l => h (ix2 r l)) := by
  unfold runMax
  pointwise
  rfl

/-! ## The gated product's scale and codes -/

theorem pay43_apply (a : FVec Ideal S256x1 .f32) (n : IVec S256x1 32) (b : IVec S256x1 1) (z : FVec Ideal S256x1 .f32)
    (h : Vec Ideal S256x1792 .f32) (r : Fin 256) (l : Fin 1792) :
    k0_pay1 (F := Ideal) (k0_pay43 a n b z h) (Scalar.ofBits .f32 0xC3E00000#32) (Scalar.ofBits .f32 0x43E00000#32) (ix2 r l)
      = code (h (ix2 r l)) (kPow2 (IntOp.subi 0#32 (k0_pay41 a n b z (ix2 r 0)))) := by
  unfold k0_pay1 k0_pay43
  generalize k0_pay41 a n b z = e
  pointwise
  rfl

end Cert.KernelIdeal.Payload
-- ==== Proof.Block.lean ====
module

public import proofs.«01_k».proof.Proof.Gen.KernelIdeal.Value
public import Idealize.ShloMosaic.Lib.Pipeline.ReadBack
public import proofs.«01_k».proof.Proof.Payload

/-!
# What one grid step leaves in its four result blocks

The step stores the activations' scale and codes, then fills a scratch buffer with the gated product,
seven chunks of 256 columns, while it keeps the running maximum of each row. At the end it reads the
whole scratch buffer back and stores the scale and the codes of the gated product. Each theorem below
reads one of the four blocks at a row (and a column).
-/

@[expose] public section
set_option maxRecDepth 65536
noncomputable section
namespace Cert.KernelIdeal.Block
open Cert.KernelIdeal Cert.KernelIdeal.Gen Idealize.ShloMosaic Idealize.ShloMosaic.Tactic Idealize.ShloMosaic.TcCoe Idealize.SL.Sem
open Cert.Exponent Cert.Row Cert.KernelIdeal.Payload

variable (c : Dev nD) (i : grid0.Coords)
  (a1 : Memref sig .tc .vmem S256x4096 .bf16) (h1 : a1.IsWhole) (a2 : Memref sig .tc .vmem S4096x3584 .fp8e4m3) (h2 : a2.IsWhole)
  (a3 : Memref sig .tc .vmem S1x3584 .f32) (h3 : a3.IsWhole) (a4 : Memref sig .tc .vmem S256x1 .f32) (h4 : a4.IsWhole)
  (a5 : Memref sig .tc .vmem S256x1792 .fp8e4m3) (h5 : a5.IsWhole) (a6 : Memref sig .tc .vmem S256x4096 .fp8e4m3) (h6 : a6.IsWhole)
  (a7 : Memref sig .tc .vmem S256x1 .f32) (h7 : a7.IsWhole) (a8 : Memref sig .tc .vmem S256x1792 .f32) (h8 : a8.IsWhole)
  (x0 : Vec Ideal S256x4096 .bf16) (x1 : Vec Ideal S4096x3584 .fp8e4m3) (x2 : Vec Ideal S1x3584 .f32)

theorem hz : (![0, 0] : Fin 2 → Nat) = fun _ => 0 := funext fun a => by fin_cases a <;> rfl

/-- The step's scales of the activations. -/
def xsV : FVec Ideal S256x1 .f32 := k0_pay7 (k0_pay4 x0) (k0_pay5 x0) k0_pay6

/-- The step's codes of the activations. -/
def xcV : FVec Ideal S256x4096 .fp8e4m3 := k0_pay8 (k0_pay2 x0) (k0_pay3 x0)

/-- The gated product of row `r` of the step is the row function's. -/
theorem hRow_eq (r : Fin 256) :
    hRow (xsV x0) (xcV x0) x1 x2 r = gatedRow (xRow x0 r) (wFun x1) (sFun x2) := by
  unfold hRow gatedRow xsV xcV
  rw [Payload.xScale_apply]
  simp only [Payload.xCode_apply]

/-! ## The seven chunks -/

def ch0 := hChunk (xsV x0) (xcV x0) x1 x2 0 1792 inb_S4096x3584_S4096x256_0_0 inb_S4096x3584_S4096x256_0_1792 inb_S1x3584_S1x256_0_0 inb_S1x3584_S1x256_0_1792
def ch1 := hChunk (xsV x0) (xcV x0) x1 x2 256 2048 inb_S4096x3584_S4096x256_0_256 inb_S4096x3584_S4096x256_0_2048 inb_S1x3584_S1x256_0_256 inb_S1x3584_S1x256_0_2048
def ch2 := hChunk (xsV x0) (xcV x0) x1 x2 512 2304 inb_S4096x3584_S4096x256_0_512 inb_S4096x3584_S4096x256_0_2304 inb_S1x3584_S1x256_0_512 inb_S1x3584_S1x256_0_2304
def ch3 := hChunk (xsV x0) (xcV x0) x1 x2 768 2560 inb_S4096x3584_S4096x256_0_768 inb_S4096x3584_S4096x256_0_2560 inb_S1x3584_S1x256_0_768 inb_S1x3584_S1x256_0_2560
def ch4 := hChunk (xsV x0) (xcV x0) x1 x2 1024 2816 inb_S4096x3584_S4096x256_0_1024 inb_S4096x3584_S4096x256_0_2816 inb_S1x3584_S1x256_0_1024 inb_S1x3584_S1x256_0_2816
def ch5 := hChunk (xsV x0) (xcV x0) x1 x2 1280 3072 inb_S4096x3584_S4096x256_0_1280 inb_S4096x3584_S4096x256_0_3072 inb_S1x3584_S1x256_0_1280 inb_S1x3584_S1x256_0_3072
def ch6 := hChunk (xsV x0) (xcV x0) x1 x2 1536 3328 inb_S4096x3584_S4096x256_0_1536 inb_S4096x3584_S4096x256_0_3328 inb_S1x3584_S1x256_0_1536 inb_S1x3584_S1x256_0_3328

theorem ch0_apply (r l : Fin 256) : ch0 x0 x1 x2 (ix2 r l) = chunk (gatedRow (xRow x0 r) (wFun x1) (sFun x2)) 0 (by omega) l := by
  rw [← hRow_eq]
  exact hChunk_apply _ _ _ _ 0 1792 _ _ _ _ (by omega) rfl r l

theorem ch1_apply (r l : Fin 256) : ch1 x0 x1 x2 (ix2 r l) = chunk (gatedRow (xRow x0 r) (wFun x1) (sFun x2)) 256 (by omega) l := by
  rw [← hRow_eq]
  exact hChunk_apply _ _ _ _ 256 2048 _ _ _ _ (by omega) rfl r l

theorem ch2_apply (r l : Fin 256) : ch2 x0 x1 x2 (ix2 r l) = chunk (gatedRow (xRow x0 r) (wFun x1) (sFun x2)) 512 (by omega) l := by
  rw [← hRow_eq]
  exact hChunk_apply _ _ _ _ 512 2304 _ _ _ _ (by omega) rfl r l

theorem ch3_apply (r l : Fin 256) : ch3 x0 x1 x2 (ix2 r l) = chunk (gatedRow (xRow x0 r) (wFun x1) (sFun x2)) 768 (by omega) l := by
  rw [← hRow_eq]
  exact hChunk_apply _ _ _ _ 768 2560 _ _ _ _ (by omega) rfl r l

theorem ch4_apply (r l : Fin 256) : ch4 x0 x1 x2 (ix2 r l) = chunk (gatedRow (xRow x0 r) (wFun x1) (sFun x2)) 1024 (by omega) l := by
  rw [← hRow_eq]
  exact hChunk_apply _ _ _ _ 1024 2816 _ _ _ _ (by omega) rfl r l

theorem ch5_apply (r l : Fin 256) : ch5 x0 x1 x2 (ix2 r l) = chunk (gatedRow (xRow x0 r) (wFun x1) (sFun x2)) 1280 (by omega) l := by
  rw [← hRow_eq]
  exact hChunk_apply _ _ _ _ 1280 3072 _ _ _ _ (by omega) rfl r l

theorem ch6_apply (r l : Fin 256) : ch6 x0 x1 x2 (ix2 r l) = chunk (gatedRow (xRow x0 r) (wFun x1) (sFun x2)) 1536 (by omega) l := by
  rw [← hRow_eq]
  exact hChunk_apply _ _ _ _ 1536 3328 _ _ _ _ (by omega) rfl r l

/-- The running maximum after the last chunk. -/
def maxH : FVec Ideal S256x1 .f32 :=
  runMax (runMax (runMax (runMax (runMax (runMax (runMax k0_pay9 (ch0 x0 x1 x2)) (ch1 x0 x1 x2)) (ch2 x0 x1 x2)) (ch3 x0 x1 x2))
    (ch4 x0 x1 x2)) (ch5 x0 x1 x2)) (ch6 x0 x1 x2)

theorem zero_apply (r : Fin 256) : k0_pay9 (F := Ideal) (ix2 r 0) = 0 := by
  pointwise [k0_pay9]

theorem maxH_apply (r : Fin 256) :
    maxH x0 x1 x2 (ix2 r 0) = rowMax (gatedRow (xRow x0 r) (wFun x1) (sFun x2)) := by
  rw [← rowMax_chunks]
  unfold maxH
  simp only [runMax_apply, zero_apply, ch0_apply, ch1_apply, ch2_apply, ch3_apply, ch4_apply, ch5_apply, ch6_apply]

/-! ## The activations' blocks -/

theorem out6 : out0_A_6 c i a1 h1 a2 h2 a3 h3 a4 h4 a5 h5 a6 h6 a7 h7 a8 h8 x0 x1 x2 = xsV x0 := by
  unfold out0_A_6
  rw [View.read_writes_eq_canon _ _ _ (cover0_A_6 c i a1 h1 a2 h2 a3 h3 a4 h4 a5 h5 a6 h6 a7 h7 a8 h8 x0 x1 x2)]
  unfold kernelRun0_A
  dsimp only
  sl_unfold_words
  rw [View.canon_unit_zero hz]
  simp only [View.readAt_eq_ld, h1.read_unread, h2.read_unread, h3.read_unread, View.ld_unit_zero (S := S256x4096) hz]
  rfl

theorem out5 : out0_A_5 c i a1 h1 a2 h2 a3 h3 a4 h4 a5 h5 a6 h6 a7 h7 a8 h8 x0 x1 x2 = xcV x0 := by
  unfold out0_A_5
  rw [View.read_writes_eq_canon _ _ _ (cover0_A_5 c i a1 h1 a2 h2 a3 h3 a4 h4 a5 h5 a6 h6 a7 h7 a8 h8 x0 x1 x2)]
  unfold kernelRun0_A
  dsimp only
  sl_unfold_words
  rw [View.canon_unit_zero hz]
  simp only [View.readAt_eq_ld, h1.read_unread, h2.read_unread, h3.read_unread, View.ld_unit_zero (S := S256x4096) hz]
  rfl

/-! ## The gated product's blocks -/

theorem out3 : out0_A_3 c i a1 h1 a2 h2 a3 h3 a4 h4 a5 h5 a6 h6 a7 h7 a8 h8 x0 x1 x2 = scaleV (expV (maxH x0 x1 x2)) := by
  unfold out0_A_3
  rw [View.read_writes_eq_canon _ _ _ (cover0_A_3 c i a1 h1 a2 h2 a3 h3 a4 h4 a5 h5 a6 h6 a7 h7 a8 h8 x0 x1 x2)]
  unfold kernelRun0_A
  dsimp only
  sl_unfold_words
  rw [View.canon_unit_zero hz]
  simp only [View.readAt_eq_ld, h1.read_unread, h2.read_unread, h3.read_unread, View.ld_unit_zero (S := S256x4096) hz]
  rfl

/-- The scratch buffer's seven stores, last first. -/
def pieces : List (View.Piece (Elt Ideal) S256x1792 .f32) :=
  [⟨Rect.unit ![0, 1536] ![256, 256] inb_S256x1792_S256x256_0_1536, shapeCast S256x256 (ch6 x0 x1 x2) shapeCasts_S256x256_S256x256⟩,
   ⟨Rect.unit ![0, 1280] ![256, 256] inb_S256x1792_S256x256_0_1280, shapeCast S256x256 (ch5 x0 x1 x2) shapeCasts_S256x256_S256x256⟩,
   ⟨Rect.unit ![0, 1024] ![256, 256] inb_S256x1792_S256x256_0_1024, shapeCast S256x256 (ch4 x0 x1 x2) shapeCasts_S256x256_S256x256⟩,
   ⟨Rect.unit ![0, 768] ![256, 256] inb_S256x1792_S256x256_0_768, shapeCast S256x256 (ch3 x0 x1 x2) shapeCasts_S256x256_S256x256⟩,
   ⟨Rect.unit ![0, 512] ![256, 256] inb_S256x1792_S256x256_0_512, shapeCast S256x256 (ch2 x0 x1 x2) shapeCasts_S256x256_S256x256⟩,
   ⟨Rect.unit ![0, 256] ![256, 256] inb_S256x1792_S256x256_0_256, shapeCast S256x256 (ch1 x0 x1 x2) shapeCasts_S256x256_S256x256⟩,
   ⟨Rect.unit ![0, 0] ![256, 256] inb_S256x1792_S256x256_0_0, shapeCast S256x256 (ch0 x0 x1 x2) shapeCasts_S256x256_S256x256⟩]

/-- What the scratch buffer holds at the end of the step. -/
def scratch : Vec Ideal S256x1792 .f32 := View.canon (pieces x0 x1 x2)

/-- One store of the scratch buffer holds the gated product's columns from `o`. -/
theorem piece_apply (h : FVec Ideal S256x256 .f32) (o : Nat) (ho : o + 256 ≤ 1792)
    (inb : ∀ a, (![0, o] : Fin 2 → Nat) a + (![256, 256] : Fin 2 → Nat) a ≤ S256x1792.size a)
    (hh : ∀ r l, h (ix2 r l) = chunk (gatedRow (xRow x0 r) (wFun x1) (sFun x2)) o ho l)
    (x : (Rect.unit (s := S256x1792) ![0, o] ![256, 256] inb).shape.Idx) :
    shapeCast S256x256 h shapeCasts_S256x256_S256x256 x
      = (fun y : S256x1792.Idx => gatedRow (xRow x0 (y 0)) (wFun x1) (sFun x2) (y 1))
          ((Rect.unit (s := S256x1792) ![0, o] ![256, 256] inb).emb x) := by
  rw [shapeCast_self]
  obtain ⟨a, b, rfl⟩ : ∃ a b : Fin 256, x = (ix2 a b : S256x256.Idx) :=
    ⟨x 0, x 1, by funext d; fin_cases d <;> rfl⟩
  have e : (Rect.unit (s := S256x1792) ![0, o] ![256, 256] inb).emb (ix2 a b : S256x256.Idx)
      = (ix2 a (⟨o + b, by omega⟩ : Fin 1792) : S256x1792.Idx) := by
    funext d
    refine Fin.ext ?_
    fin_cases d
    · show 0 + 1 * (a : Nat) = a; omega
    · show o + 1 * (b : Nat) = o + b; omega
  rw [e]
  exact hh a b

theorem scratch_apply (r : Fin 256) (l : Fin 1792) :
    scratch x0 x1 x2 (ix2 r l) = gatedRow (xRow x0 r) (wFun x1) (sFun x2) l := by
  have hp : View.PiecesOf (fun y : S256x1792.Idx => gatedRow (xRow x0 (y 0)) (wFun x1) (sFun x2) (y 1)) (pieces x0 x1 x2) :=
    ⟨piece_apply x0 x1 x2 (ch6 x0 x1 x2) 1536 (by omega) inb_S256x1792_S256x256_0_1536 (ch6_apply x0 x1 x2),
     piece_apply x0 x1 x2 (ch5 x0 x1 x2) 1280 (by omega) inb_S256x1792_S256x256_0_1280 (ch5_apply x0 x1 x2),
     piece_apply x0 x1 x2 (ch4 x0 x1 x2) 1024 (by omega) inb_S256x1792_S256x256_0_1024 (ch4_apply x0 x1 x2),
     piece_apply x0 x1 x2 (ch3 x0 x1 x2) 768 (by omega) inb_S256x1792_S256x256_0_768 (ch3_apply x0 x1 x2),
     piece_apply x0 x1 x2 (ch2 x0 x1 x2) 512 (by omega) inb_S256x1792_S256x256_0_512 (ch2_apply x0 x1 x2),
     piece_apply x0 x1 x2 (ch1 x0 x1 x2) 256 (by omega) inb_S256x1792_S256x256_0_256 (ch1_apply x0 x1 x2),
     piece_apply x0 x1 x2 (ch0 x0 x1 x2) 0 (by omega) inb_S256x1792_S256x256_0_0 (ch0_apply x0 x1 x2),
     trivial⟩
  have hc : ∃ p ∈ pieces x0 x1 x2, (ix2 r l : S256x1792.Idx) ∈ p.1.set :=
    View.cover_of_tiled _ ![256, 256] rfl _
  have := View.canon_append_of_piecesOf _ [] _ hp (ix2 r l) hc
  rw [List.append_nil] at this
  exact this

theorem out4 : out0_A_4 c i a1 h1 a2 h2 a3 h3 a4 h4 a5 h5 a6 h6 a7 h7 a8 h8 x0 x1 x2
    = k0_pay1 (k0_pay43 (maxH x0 x1 x2) (countV (maxH x0 x1 x2))
        (ori (cmpi .eq (countV (maxH x0 x1 x2)) (broadcast S256x1 0#32)) (cmpi .eq (countV (maxH x0 x1 x2)) (broadcast S256x1 255#32)))
        k0_pay40 (scratch x0 x1 x2)) (Scalar.ofBits .f32 0xC3E00000#32) (Scalar.ofBits .f32 0x43E00000#32) := by
  unfold out0_A_4
  rw [View.read_writes_eq_canon _ _ _ (cover0_A_4 c i a1 h1 a2 h2 a3 h3 a4 h4 a5 h5 a6 h6 a7 h7 a8 h8 x0 x1 x2)]
  unfold kernelRun0_A
  dsimp only
  sl_unfold_words
  rw [View.canon_unit_zero hz]
  have e : ∀ L, a8.view.readCov (Val := Elt Ideal) L (Rect.unit ![0, 0] S256x1792.size inb_S256x1792_S256x1792_0_0).toLoadRect = View.canon L :=
    fun L => by rw [View.readCov_eq_canon']; exact View.ld_unit_zero (S := S256x1792) hz _ _
  simp only [View.readAt_eq_ld, h1.read_unread, h2.read_unread, h3.read_unread, View.ld_unit_zero (S := S256x4096) hz, e]
  rfl

/-! ## The four blocks at an index -/

theorem hScale_apply (r : Fin 256) :
    out0_A_3 c i a1 h1 a2 h2 a3 h3 a4 h4 a5 h5 a6 h6 a7 h7 a8 h8 x0 x1 x2 (ix2 r 0)
      = hScale (xRow x0 r) (wFun x1) (sFun x2) := by
  rw [out3, scaleV_apply, expV_apply, maxH_apply, kPow2_rowMax (by norm_num)]
  rfl

theorem hCode_apply (r : Fin 256) (l : Fin 1792) :
    out0_A_4 c i a1 h1 a2 h2 a3 h3 a4 h4 a5 h5 a6 h6 a7 h7 a8 h8 x0 x1 x2 (ix2 r l)
      = hCode (xRow x0 r) (wFun x1) (sFun x2) l := by
  rw [out4, pay43_apply]
  have e := expV_apply (maxH x0 x1 x2) r
  rw [maxH_apply] at e
  have e' : k0_pay41 (maxH x0 x1 x2) (countV (maxH x0 x1 x2))
        (ori (cmpi .eq (countV (maxH x0 x1 x2)) (broadcast S256x1 0#32)) (cmpi .eq (countV (maxH x0 x1 x2)) (broadcast S256x1 255#32)))
        k0_pay40 (ix2 r 0) = kExp (rowMax (gatedRow (xRow x0 r) (wFun x1) (sFun x2))) := e
  rw [e', kPow2_neg_rowMax (by norm_num), scratch_apply]
  rfl

theorem xCode_apply (r : Fin 256) (k : Fin 4096) :
    out0_A_5 c i a1 h1 a2 h2 a3 h3 a4 h4 a5 h5 a6 h6 a7 h7 a8 h8 x0 x1 x2 (ix2 r k) = xCode (xRow x0 r) k := by
  rw [out5]
  exact Payload.xCode_apply x0 r k

theorem xScale_apply (r : Fin 256) :
    out0_A_6 c i a1 h1 a2 h2 a3 h3 a4 h4 a5 h5 a6 h6 a7 h7 a8 h8 x0 x1 x2 (ix2 r 0) = xScale (xRow x0 r) := by
  rw [out6]
  exact Payload.xScale_apply x0 r

end Cert.KernelIdeal.Block
-- ==== Proof.KernelArray.lean ====
module

public import proofs.«01_k».proof.Proof.Block

/-!
# The kernel's four result arrays

Grid point `t` reads rows `256 t` to `256 t + 255` of the activations, the whole weights and the whole
scales, and writes the same rows of each result. So each result array, read at a row, is the row
function of that row of the activations.
-/

@[expose] public section
set_option maxRecDepth 65536
noncomputable section
namespace Cert.KernelIdeal.Array
open Cert.KernelIdeal Cert.KernelIdeal.Gen Cert.KernelIdeal.Value Idealize.ShloMosaic Idealize.ShloMosaic.Tactic Idealize.ShloMosaic.TcCoe Idealize.SL.Sem
open Cert.Exponent Cert.Row Cert.KernelIdeal.Payload
open Idealize.ShloMosaic.Pipeline (Dat)

variable (m : (ℓ : Loc nD τ sig) → Buf (Elt Ideal) ℓ)

/-! ## Where each window's block lies -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- There are four grid points. -/
theorem lt4 (t : Fin cfg0.N) : t.val < 4 := by
  have h : cfg0.N = 4 := N_0
  omega

/-- Row `r` of block `t`, as a row of the whole array. -/
def row (t : Fin cfg0.N) (r : Fin 256) : Fin 1024 := ⟨256 * t.val + r.val, by have := lt4 t; omega⟩

theorem emb0 (t : Fin cfg0.N) (r : Fin 256) (k : Fin 4096) :
    ((cfg0.win 0).blk t).view.emb (ix2 r k : S256x4096.Idx) = (ix2 (row t r) k : S1024x4096.Idx) := by
  obtain ⟨e0, e1⟩ := idx0 t
  funext a; apply Fin.ext
  match a with
  | ⟨0, _⟩ => show win0_0.index t (0 : Fin 2) * 256 + 1 * r.val = 256 * t.val + r.val; omega
  | ⟨1, _⟩ => show win0_0.index t (1 : Fin 2) * 4096 + 1 * k.val = k.val; omega

theorem emb1 (t : Fin cfg0.N) (j : S4096x3584.Idx) : ((cfg0.win 1).blk t).view.emb j = j := by
  obtain ⟨e0, e1⟩ := idx1 t
  funext a; apply Fin.ext
  match a with
  | ⟨0, _⟩ => show win0_1.index t (0 : Fin 2) * 4096 + 1 * (j 0).val = (j 0).val; omega
  | ⟨1, _⟩ => show win0_1.index t (1 : Fin 2) * 3584 + 1 * (j 1).val = (j 1).val; omega

theorem emb2 (t : Fin cfg0.N) (j : S1x3584.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 3584 + 1 * (j 1).val = (j 1).val; omega

theorem emb3 (t : Fin cfg0.N) (r : Fin 256) (l : Fin 1) :
    ((cfg0.win 3).blk t).view.emb (ix2 r l : S256x1.Idx) = (ix2 (row t r) l : S1024x1.Idx) := by
  obtain ⟨e0, e1⟩ := idx3 t
  funext a; apply Fin.ext
  match a with
  | ⟨0, _⟩ => show win0_3.index t (0 : Fin 2) * 256 + 1 * r.val = 256 * t.val + r.val; omega
  | ⟨1, _⟩ => show win0_3.index t (1 : Fin 2) * 1 + 1 * l.val = l.val; omega

theorem emb4 (t : Fin cfg0.N) (r : Fin 256) (l : Fin 1792) :
    ((cfg0.win 4).blk t).view.emb (ix2 r l : S256x1792.Idx) = (ix2 (row t r) l : S1024x1792.Idx) := by
  obtain ⟨e0, e1⟩ := idx4 t
  funext a; apply Fin.ext
  match a with
  | ⟨0, _⟩ => show win0_4.index t (0 : Fin 2) * 256 + 1 * r.val = 256 * t.val + r.val; omega
  | ⟨1, _⟩ => show win0_4.index t (1 : Fin 2) * 1792 + 1 * l.val = l.val; omega

theorem emb5 (t : Fin cfg0.N) (r : Fin 256) (l : Fin 4096) :
    ((cfg0.win 5).blk t).view.emb (ix2 r l : S256x4096.Idx) = (ix2 (row t r) l : S1024x4096.Idx) := by
  obtain ⟨e0, e1⟩ := idx5 t
  funext a; apply Fin.ext
  match a with
  | ⟨0, _⟩ => show win0_5.index t (0 : Fin 2) * 256 + 1 * r.val = 256 * t.val + r.val; omega
  | ⟨1, _⟩ => show win0_5.index t (1 : Fin 2) * 4096 + 1 * l.val = l.val; omega

theorem emb6 (t : Fin cfg0.N) (r : Fin 256) (l : Fin 1) :
    ((cfg0.win 6).blk t).view.emb (ix2 r l : S256x1.Idx) = (ix2 (row t r) l : S1024x1.Idx) := by
  obtain ⟨e0, e1⟩ := idx6 t
  funext a; apply Fin.ext
  match a with
  | ⟨0, _⟩ => show win0_6.index t (0 : Fin 2) * 256 + 1 * r.val = 256 * t.val + r.val; omega
  | ⟨1, _⟩ => show win0_6.index t (1 : Fin 2) * 1 + 1 * l.val = l.val; omega

/-! ## What each grid point reads -/

variable (c : Dev nD)

/-- Row `i` of the activations, the weight codes and their scales, as the kernel finds them. -/
def X (i : Fin 1024) (k : Fin 4096) : EReal := V m c main_v0 (ix2 i k : S1024x4096.Idx)
def W (k : Fin 4096) (j : Fin 3584) : EReal := V m c main_arg1 (ix2 k j : S4096x3584.Idx)
def S (j : Fin 3584) : EReal := V m c main_v1 (ix2 0 j : S1x3584.Idx)

theorem xRow_iblk (t : Fin cfg0.N) (r : Fin 256) : xRow (iblk m c 0 t) r = X m c (row t r) := by
  funext k
  show V m c main_v0 (((cfg0.win 0).blk t).view.emb (ix2 r k : S256x4096.Idx)) = _
  rw [emb0]; rfl

theorem wFun_iblk (t : Fin cfg0.N) : wFun (iblk m c 1 t) = W m c := by
  funext k j
  show V m c main_arg1 (((cfg0.win 1).blk t).view.emb (ix2 k j : S4096x3584.Idx)) = _
  rw [emb1]; rfl

theorem sFun_iblk (t : Fin cfg0.N) : sFun (iblk m c 2 t) = S m c := by
  funext j
  show V m c main_v1 (((cfg0.win 2).blk t).view.emb (ix2 0 j : S1x3584.Idx)) = _
  rw [emb2]; rfl

/-! ## The four arrays -/

/-- The block of a row of the whole array, and its row there. -/
theorem row_split (i : Fin 1024) : ∃ (t : Fin cfg0.N) (r : Fin 256), row t r = i := by
  have hN : cfg0.N = 4 := N_0
  refine ⟨⟨i.val / 256, by omega⟩, ⟨i.val % 256, by omega⟩, Fin.ext ?_⟩
  show 256 * (i.val / 256) + i.val % 256 = i.val
  omega

theorem hScale_apply (i : Fin 1024) :
    (dats m 0 c).arrAt 3 cfg0.N (ix2 i 0 : S1024x1.Idx) = hScale (X m c i) (W m c) (S m c) := by
  obtain ⟨t, r, rfl⟩ := row_split i
  have h := congrFun (blocks3 m c t (flush0_3 t)) (ix2 r 0 : S256x1.Idx)
  rw [flushed3_A] at h
  rw [← xRow_iblk, ← wFun_iblk m c t, ← sFun_iblk m c t, ← emb3 t r 0]
  exact h.trans (Block.hScale_apply _ _ _ _ _ _ _ _ _ _ _ _ _ _ _ _ _ _ _ _ _ r)

theorem hCode_apply (i : Fin 1024) (l : Fin 1792) :
    (dats m 0 c).arrAt 4 cfg0.N (ix2 i l : S1024x1792.Idx) = hCode (X m c i) (W m c) (S m c) l := by
  obtain ⟨t, r, rfl⟩ := row_split i
  have h := congrFun (blocks4 m c t (flush0_4 t)) (ix2 r l : S256x1792.Idx)
  rw [flushed4_A] at h
  rw [← xRow_iblk, ← wFun_iblk m c t, ← sFun_iblk m c t, ← emb4 t r l]
  exact h.trans (Block.hCode_apply _ _ _ _ _ _ _ _ _ _ _ _ _ _ _ _ _ _ _ _ _ r l)

theorem xCode_apply (i : Fin 1024) (l : Fin 4096) :
    (dats m 0 c).arrAt 5 cfg0.N (ix2 i l : S1024x4096.Idx) = xCode (X m c i) l := by
  obtain ⟨t, r, rfl⟩ := row_split i
  have h := congrFun (blocks5 m c t (flush0_5 t)) (ix2 r l : S256x4096.Idx)
  rw [flushed5_A] at h
  rw [← xRow_iblk, ← emb5 t r l]
  exact h.trans (Block.xCode_apply _ _ _ _ _ _ _ _ _ _ _ _ _ _ _ _ _ _ _ _ _ r l)

theorem xScale_apply (i : Fin 1024) :
    (dats m 0 c).arrAt 6 cfg0.N (ix2 i 0 : S1024x1.Idx) = xScale (X m c i) := by
  obtain ⟨t, r, rfl⟩ := row_split i
  have h := congrFun (blocks6 m c t (flush0_6 t)) (ix2 r 0 : S256x1.Idx)
  rw [flushed6_A] at h
  rw [← xRow_iblk, ← emb6 t r 0]
  exact h.trans (Block.xScale_apply _ _ _ _ _ _ _ _ _ _ _ _ _ _ _ _ _ _ _ _ _ r)

end Cert.KernelIdeal.Array
-- ==== Proof.RefBlock.lean ====
module

public import proofs.«01_k».proof.Proof.Gen.ReferenceIdeal.Value
public import proofs.«01_k».proof.Proof.Row

/-!
# What the reference leaves in its four results

The reference has no grid: one step on the whole arrays. Each theorem at the end reads one of the four
results at a row (and a column) as the row function of `Proof/Row.lean`.
-/

@[expose] public section
set_option maxRecDepth 65536
noncomputable section
namespace Cert.ReferenceIdeal.Block
open Cert.ReferenceIdeal Cert.ReferenceIdeal.Gen Idealize.ShloMosaic Idealize.ShloMosaic.Tactic Idealize.ShloMosaic.TcCoe Idealize.SL.Sem
open Cert.Exponent Cert.Row

theorem hz : (![0, 0] : Fin 2 → Nat) = fun _ => 0 := funext fun a => by fin_cases a <;> rfl

/-- Row `r` of the activations, the weight codes and their scales as plain functions. -/
def xRow (x0 : Vec Ideal S1024x4096 .bf16) (r : Fin 1024) (k : Fin 4096) : EReal := x0 (ix2 r k)
def wFun (x1 : Vec Ideal S4096x3584 .fp8e4m3) (k : Fin 4096) (j : Fin 3584) : EReal := x1 (ix2 k j)
def sFun (x2 : Vec Ideal S1x3584 .f32) (j : Fin 3584) : EReal := x2 (ix2 0 j)

/-! ## The exponent, the scale and the codes, from the rows' maxima -/

/-- The reference's exponent, its constants left open. -/
def expOf (c1 c2 c3 c4 L : Ideal .f32) (v : FVec Ideal S1024x1 .f32) : FVec Ideal S1024x1 .f32 :=
  select (cmpf .oeq v (broadcast S1024x1 (Scalar.ofBits .f32 0x00000000#32)))
    (broadcast S1024x1 (Scalar.ofBits .f32 0x00000000#32))
    (select (ori (cmpf .olt (mulf v (broadcast S1024x1 c1)) (broadcast S1024x1 c2))
        (cmpf .oeq (mulf v (broadcast S1024x1 c1)) (broadcast S1024x1 c3)))
      (broadcast S1024x1 (Scalar.ofBits .f32 0x00000000#32))
      (addf (floor (divf (log (mulf v (broadcast S1024x1 c1))) (broadcast S1024x1 L))) (broadcast S1024x1 c4)))

theorem expOf_apply (c1 c2 c3 c4 L : Ideal .f32) (v : FVec Ideal S1024x1 .f32) (j : S1024x1.Idx) :
    expOf c1 c2 c3 c4 L v j
      = (if v j = 0 then 0 else Scalar.select (IntOp.ori (BitVec.ofBool (decide (v j * c1 < c2))) (BitVec.ofBool (decide (v j * c1 = c3)))) 0
          (Ideal.liftRound Int.floor (Ideal.div (Ideal.log (v j * c1)) L) + c4) : EReal) := by
  pointwise [expOf]

/-- The reference's exponent of the rows' maxima `v`. -/
def expR (v : FVec Ideal S1024x1 .f32) : FVec Ideal S1024x1 .f32 :=
  expOf (Scalar.ofBits .f32 0x3B124925#32) (Scalar.ofBits .f32 0x00800000#32) (Scalar.ofBits .f32 0x7F800000#32)
    (Scalar.ofBits .f32 0x3F800000#32) (Scalar.log (Scalar.ofBits .f32 0x40000000#32)) v

theorem expR_apply (v : FVec Ideal S1024x1 .f32) (j : S1024x1.Idx) : expR v j = refExp (v j) :=
  expOf_apply _ _ _ _ _ v j

/-- The reference's scale of the exponents `e`. -/
def scaleR (e : FVec Ideal S1024x1 .f32) : FVec Ideal S1024x1 .f32 :=
  select (cmpf .oge e (broadcast S1024x1 (Scalar.ofBits .f32 0x43000000#32)))
    (broadcast S1024x1 (Scalar.ofBits .f32 0x7F800000#32)) (exp2 e)

theorem scaleR_apply (e : FVec Ideal S1024x1 .f32) (j : S1024x1.Idx) : scaleR e j = refScale (e j) := by
  pointwise [scaleR]
  rfl

/-- The reference's inverse scale of the exponents `e`. -/
def invR (e : FVec Ideal S1024x1 .f32) : FVec Ideal S1024x1 .f32 :=
  select (cmpf .ogt e (broadcast S1024x1 (Scalar.ofBits .f32 0x42FC0000#32)))
    (broadcast S1024x1 (Scalar.ofBits .f32 0x00000000#32))
    (exp2 (subf (broadcast S1024x1 (Scalar.ofBits .f32 0x00000000#32)) e))

theorem invR_apply (e : FVec Ideal S1024x1 .f32) (j : S1024x1.Idx) : invR e j = refInv (e j) := by
  pointwise [invR]
  rfl

/-- The largest magnitude of each row of the activations. -/
def maxX (h : FVec Ideal S1024x4096 .f32) : FVec Ideal S1024x1 .f32 :=
  shapeCast S1024x1 (multiReduction .maximumf [1] S1024 (absf h) 0xFF800000#32 reduces_S1024x4096_S1024 (.inl rfl) rfl)
    shapeCasts_S1024_S1024x1

theorem maxX_apply (h : FVec Ideal S1024x4096 .f32) (r : Fin 1024) :
    maxX h (ix2 r 0) = rowMax fun k => h (ix2 r k) := by
  pointwise [maxX]
  rfl

/-- The largest magnitude of each row of the gated product. -/
def maxG (h : FVec Ideal S1024x1792 .f32) : FVec Ideal S1024x1 .f32 :=
  shapeCast S1024x1 (multiReduction .maximumf [1] S1024 (absf h) 0xFF800000#32 reduces_S1024x1792_S1024 (.inl rfl) rfl)
    shapeCasts_S1024_S1024x1

theorem maxG_apply (h : FVec Ideal S1024x1792 .f32) (r : Fin 1024) :
    maxG h (ix2 r 0) = rowMax fun k => h (ix2 r k) := by
  pointwise [maxG]
  rfl

/-- The codes of the activations, from their values `h` and the rows' inverse scales `w`. -/
def codesX (h : FVec Ideal S1024x4096 .f32) (w : FVec Ideal S1024x1 .f32) : FVec Ideal S1024x4096 .fp8e4m3 :=
  k0_pay6 (Scalar.ofBits .f32 0x43E00000#32)
    (maximumf (broadcast S1024x4096 (Scalar.ofBits .f32 0xC3E00000#32))
      (mulf h (broadcastTo S1024x4096 w broadcasts_S1024x1_S1024x4096)))

theorem codesX_apply (h : FVec Ideal S1024x4096 .f32) (w : FVec Ideal S1024x1 .f32) (r : Fin 1024) (k : Fin 4096) :
    codesX h w (ix2 r k) = code (h (ix2 r k)) (w (ix2 r 0)) := by
  pointwise [codesX, k0_pay6]
  rfl

/-- The codes of the gated product, from its values `h` and the rows' inverse scales `w`. -/
def codesG (h : FVec Ideal S1024x1792 .f32) (w : FVec Ideal S1024x1 .f32) : FVec Ideal S1024x1792 .fp8e4m3 :=
  truncf .fp8e4m3 (minimumf (broadcast S1024x1792 (Scalar.ofBits .f32 0x43E00000#32))
    (maximumf (broadcast S1024x1792 (Scalar.ofBits .f32 0xC3E00000#32))
      (mulf h (broadcastTo S1024x1792 w broadcasts_S1024x1_S1024x1792)))) bitsLt_fp8e4m3_f32

theorem codesG_apply (h : FVec Ideal S1024x1792 .f32) (w : FVec Ideal S1024x1 .f32) (r : Fin 1024) (l : Fin 1792) :
    codesG h w (ix2 r l) = code (h (ix2 r l)) (w (ix2 r 0)) := by
  pointwise [codesG]
  rfl

/-! ## The body's values -/

theorem value_apply (x0 : Vec Ideal S1024x4096 .bf16) (r : Fin 1024) (k : Fin 4096) :
    k0_pay2 x0 (ix2 r k) = xRow x0 r k := by
  pointwise [k0_pay2]
  rfl

theorem pay3_eq (x0 : Vec Ideal S1024x4096 .bf16) : k0_pay3 x0 = expR (maxX (k0_pay2 x0)) := rfl

theorem pay4_eq (x0 : Vec Ideal S1024x4096 .bf16) : k0_pay4 x0 = scaleR (expR (maxX (k0_pay2 x0))) := rfl

theorem pay6_eq (x0 : Vec Ideal S1024x4096 .bf16) :
    k0_pay6 (Scalar.ofBits .f32 0x43E00000#32) (k0_pay5 x0) = codesX (k0_pay2 x0) (invR (expR (maxX (k0_pay2 x0)))) := rfl

theorem maxX_value (x0 : Vec Ideal S1024x4096 .bf16) (r : Fin 1024) :
    maxX (k0_pay2 x0) (ix2 r 0) = rowMax (xRow x0 r) := by
  rw [maxX_apply]
  exact congrArg rowMax (funext fun k => value_apply x0 r k)

/-- The activations' scale. -/
theorem pay4_apply (x0 : Vec Ideal S1024x4096 .bf16) (r : Fin 1024) : k0_pay4 x0 (ix2 r 0) = xScale (xRow x0 r) := by
  rw [pay4_eq, scaleR_apply, expR_apply, maxX_value]
  rfl

/-- The activations' codes. -/
theorem pay6_apply (x0 : Vec Ideal S1024x4096 .bf16) (r : Fin 1024) (k : Fin 4096) :
    k0_pay6 (Scalar.ofBits .f32 0x43E00000#32) (k0_pay5 x0) (ix2 r k) = xCode (xRow x0 r) k := by
  rw [pay6_eq, codesX_apply, invR_apply, expR_apply, maxX_value, value_apply]
  rfl

/-- The gated product, from the codes and the scales of the activations. -/
theorem pay7_of (v30 : FVec Ideal S1024x1 .f32) (c : Ideal .f32) (v41 : FVec Ideal S1024x4096 .f32)
    (x1 : Vec Ideal S4096x3584 .fp8e4m3) (x2 : Vec Ideal S1x3584 .f32) (r : Fin 1024) (l : Fin 1792) :
    k0_pay7 v30 c v41 x1 x2 (ix2 r l)
      = gatedRowOf (fun k => k0_pay6 c v41 (ix2 r k)) (v30 (ix2 r 0)) (wFun x1) (sFun x2) l := by
  unfold k0_pay7
  generalize k0_pay6 c v41 = xc
  pointwise
  rfl

/-- The gated product of the reference, whole. -/
def prod (x0 : Vec Ideal S1024x4096 .bf16) (x1 : Vec Ideal S4096x3584 .fp8e4m3) (x2 : Vec Ideal S1x3584 .f32) :
    FVec Ideal S1024x1792 .f32 :=
  k0_pay7 (k0_pay4 x0) (Scalar.ofBits .f32 0x43E00000#32) (k0_pay5 x0) x1 x2

variable (x0 : Vec Ideal S1024x4096 .bf16) (x1 : Vec Ideal S4096x3584 .fp8e4m3) (x2 : Vec Ideal S1x3584 .f32)

theorem prod_apply (r : Fin 1024) (l : Fin 1792) :
    prod x0 x1 x2 (ix2 r l) = gatedRow (xRow x0 r) (wFun x1) (sFun x2) l := by
  unfold prod gatedRow
  rw [pay7_of, pay4_apply]
  simp only [pay6_apply]

theorem maxG_prod (r : Fin 1024) :
    maxG (prod x0 x1 x2) (ix2 r 0) = rowMax (gatedRow (xRow x0 r) (wFun x1) (sFun x2)) := by
  rw [maxG_apply]
  exact congrArg rowMax (funext fun l => prod_apply x0 x1 x2 r l)

theorem pay8_eq : k0_pay8 (k0_pay4 x0) (Scalar.ofBits .f32 0x43E00000#32) (k0_pay5 x0) x1 x2
    = expR (maxG (prod x0 x1 x2)) := rfl

theorem pay9_eq : k0_pay9 (k0_pay4 x0) (Scalar.ofBits .f32 0x43E00000#32) (k0_pay5 x0) x1 x2
    = scaleR (expR (maxG (prod x0 x1 x2))) := rfl

/-- The gated product's scale. -/
theorem pay9_apply (r : Fin 1024) :
    k0_pay9 (k0_pay4 x0) (Scalar.ofBits .f32 0x43E00000#32) (k0_pay5 x0) x1 x2 (ix2 r 0)
      = hScale (xRow x0 r) (wFun x1) (sFun x2) := by
  rw [pay9_eq, scaleR_apply, expR_apply, maxG_prod]
  rfl

theorem pay1_eq (h : FVec Ideal S1024x1792 .f32) (e : FVec Ideal S1024x1 .f32) : k0_pay1 h e = codesG h (invR e) := rfl

/-- The gated product's codes. -/
theorem pay1_apply (r : Fin 1024) (l : Fin 1792) :
    k0_pay1 (k0_pay7 (k0_pay4 x0) (Scalar.ofBits .f32 0x43E00000#32) (k0_pay5 x0) x1 x2)
        (k0_pay8 (k0_pay4 x0) (Scalar.ofBits .f32 0x43E00000#32) (k0_pay5 x0) x1 x2) (ix2 r l)
      = hCode (xRow x0 r) (wFun x1) (sFun x2) l := by
  rw [pay8_eq, pay1_eq, codesG_apply, invR_apply, expR_apply, maxG_prod]
  exact congrArg (fun v => code v _) (prod_apply x0 x1 x2 r l)

/-! ## The four results -/

theorem hScale_apply (r : Fin 1024) : out0_3 x0 x1 x2 (ix2 r 0) = hScale (xRow x0 r) (wFun x1) (sFun x2) := by
  unfold_out out0_3
  rw [View.canon_unit_zero hz, View.ld_unit_zero hz, View.ld_unit_zero hz, View.ld_unit_zero hz]
  exact pay9_apply x0 x1 x2 r

theorem hCode_apply (r : Fin 1024) (l : Fin 1792) :
    out0_4 x0 x1 x2 (ix2 r l) = hCode (xRow x0 r) (wFun x1) (sFun x2) l := by
  unfold_out out0_4
  rw [View.canon_unit_zero hz, View.ld_unit_zero hz, View.ld_unit_zero hz, View.ld_unit_zero hz]
  exact pay1_apply x0 x1 x2 r l

theorem xCode_apply (r : Fin 1024) (k : Fin 4096) : out0_5 x0 x1 x2 (ix2 r k) = xCode (xRow x0 r) k := by
  unfold_out out0_5
  rw [View.canon_unit_zero hz, View.ld_unit_zero hz]
  exact pay6_apply x0 r k

theorem xScale_apply (r : Fin 1024) : out0_6 x0 x1 x2 (ix2 r 0) = xScale (xRow x0 r) := by
  unfold_out out0_6
  rw [View.canon_unit_zero hz, View.ld_unit_zero hz]
  exact pay4_apply x0 r

end Cert.ReferenceIdeal.Block
-- ==== Proof.RefArray.lean ====
module

public import proofs.«01_k».proof.Proof.RefBlock

/-!
# The reference's four result arrays

The reference's one step reads and writes whole arrays, so each result array, read at a row, is the row
function of that row of the activations.
-/

@[expose] public section
set_option maxRecDepth 65536
noncomputable section
namespace Cert.ReferenceIdeal.Array
open Cert.ReferenceIdeal Cert.ReferenceIdeal.Gen Cert.ReferenceIdeal.Value Idealize.ShloMosaic Idealize.ShloMosaic.Tactic Idealize.ShloMosaic.TcCoe Idealize.SL.Sem
open Cert.Exponent Cert.Row Cert.ReferenceIdeal.Block
open Idealize.ShloMosaic.Pipeline (Dat)

variable (m : (ℓ : Loc nD τ sig) → Buf (Elt Ideal) ℓ)

/-! ## Each window's block is its whole array -/

theorem emb0 (t : Fin cfg0.N) (j : S1024x4096.Idx) : ((cfg0.win 0).blk t).view.emb j = j := by
  funext a; apply Fin.ext
  match a with
  | ⟨0, _⟩ => show 0 * 1024 + 1 * (j 0).val = (j 0).val; omega
  | ⟨1, _⟩ => show 0 * 4096 + 1 * (j 1).val = (j 1).val; omega

theorem emb1 (t : Fin cfg0.N) (j : S4096x3584.Idx) : ((cfg0.win 1).blk t).view.emb j = j := by
  funext a; apply Fin.ext
  match a with
  | ⟨0, _⟩ => show 0 * 4096 + 1 * (j 0).val = (j 0).val; omega
  | ⟨1, _⟩ => show 0 * 3584 + 1 * (j 1).val = (j 1).val; omega

theorem emb2 (t : Fin cfg0.N) (j : S1x3584.Idx) : ((cfg0.win 2).blk t).view.emb j = j := by
  funext a; apply Fin.ext
  match a with
  | ⟨0, _⟩ => show 0 * 1 + 1 * (j 0).val = (j 0).val; omega
  | ⟨1, _⟩ => show 0 * 3584 + 1 * (j 1).val = (j 1).val; omega

theorem emb3 (t : Fin cfg0.N) (j : S1024x1.Idx) : ((cfg0.win 3).blk t).view.emb j = j := by
  funext a; apply Fin.ext
  match a with
  | ⟨0, _⟩ => show 0 * 1024 + 1 * (j 0).val = (j 0).val; omega
  | ⟨1, _⟩ => show 0 * 1 + 1 * (j 1).val = (j 1).val; omega

theorem emb4 (t : Fin cfg0.N) (j : S1024x1792.Idx) : ((cfg0.win 4).blk t).view.emb j = j := by
  funext a; apply Fin.ext
  match a with
  | ⟨0, _⟩ => show 0 * 1024 + 1 * (j 0).val = (j 0).val; omega
  | ⟨1, _⟩ => show 0 * 1792 + 1 * (j 1).val = (j 1).val; omega

theorem emb5 (t : Fin cfg0.N) (j : S1024x4096.Idx) : ((cfg0.win 5).blk t).view.emb j = j := by
  funext a; apply Fin.ext
  match a with
  | ⟨0, _⟩ => show 0 * 1024 + 1 * (j 0).val = (j 0).val; omega
  | ⟨1, _⟩ => show 0 * 4096 + 1 * (j 1).val = (j 1).val; omega

theorem emb6 (t : Fin cfg0.N) (j : S1024x1.Idx) : ((cfg0.win 6).blk t).view.emb j = j := by
  funext a; apply Fin.ext
  match a with
  | ⟨0, _⟩ => show 0 * 1024 + 1 * (j 0).val = (j 0).val; omega
  | ⟨1, _⟩ => show 0 * 1 + 1 * (j 1).val = (j 1).val; omega

/-! ## What the step reads -/

variable (c : Dev nD)

/-- Row `i` of the activations, the weight codes and their scales, as the reference finds them. -/
def X (i : Fin 1024) (k : Fin 4096) : EReal := V m c main_v0 (ix2 i k : S1024x4096.Idx)
def W (k : Fin 4096) (j : Fin 3584) : EReal := V m c main_arg1 (ix2 k j : S4096x3584.Idx)
def S (j : Fin 3584) : EReal := V m c main_v1 (ix2 0 j : S1x3584.Idx)

theorem xRow_iblk (t : Fin cfg0.N) (r : Fin 1024) : xRow (iblk m c 0 t) r = X m c r := by
  funext k
  show V m c main_v0 (((cfg0.win 0).blk t).view.emb (ix2 r k : S1024x4096.Idx)) = _
  rw [emb0]; rfl

theorem wFun_iblk (t : Fin cfg0.N) : wFun (iblk m c 1 t) = W m c := by
  funext k j
  show V m c main_arg1 (((cfg0.win 1).blk t).view.emb (ix2 k j : S4096x3584.Idx)) = _
  rw [emb1]; rfl

theorem sFun_iblk (t : Fin cfg0.N) : sFun (iblk m c 2 t) = S m c := by
  funext j
  show V m c main_v1 (((cfg0.win 2).blk t).view.emb (ix2 0 j : S1x3584.Idx)) = _
  rw [emb2]; rfl

/-! ## The four arrays -/

/-- The one step. -/
def t0 : Fin cfg0.N := ⟨0, by have h : cfg0.N = 1 := N_0; omega⟩

theorem hScale_apply (i : Fin 1024) :
    (dats m 0 c).arrAt 3 cfg0.N (ix2 i 0 : S1024x1.Idx) = hScale (X m c i) (W m c) (S m c) := by
  have h := congrFun (blocks3 m c t0 (flush0_3 t0)) (ix2 i 0 : S1024x1.Idx)
  rw [flushed3] at h
  rw [← xRow_iblk m c t0, ← wFun_iblk m c t0, ← sFun_iblk m c t0, ← emb3 t0 (ix2 i 0)]
  exact h.trans (Block.hScale_apply _ _ _ i)

theorem hCode_apply (i : Fin 1024) (l : Fin 1792) :
    (dats m 0 c).arrAt 4 cfg0.N (ix2 i l : S1024x1792.Idx) = hCode (X m c i) (W m c) (S m c) l := by
  have h := congrFun (blocks4 m c t0 (flush0_4 t0)) (ix2 i l : S1024x1792.Idx)
  rw [flushed4] at h
  rw [← xRow_iblk m c t0, ← wFun_iblk m c t0, ← sFun_iblk m c t0, ← emb4 t0 (ix2 i l)]
  exact h.trans (Block.hCode_apply _ _ _ i l)

theorem xCode_apply (i : Fin 1024) (l : Fin 4096) :
    (dats m 0 c).arrAt 5 cfg0.N (ix2 i l : S1024x4096.Idx) = xCode (X m c i) l := by
  have h := congrFun (blocks5 m c t0 (flush0_5 t0)) (ix2 i l : S1024x4096.Idx)
  rw [flushed5] at h
  rw [← xRow_iblk m c t0, ← emb5 t0 (ix2 i l)]
  exact h.trans (Block.xCode_apply _ _ _ i l)

theorem xScale_apply (i : Fin 1024) :
    (dats m 0 c).arrAt 6 cfg0.N (ix2 i 0 : S1024x1.Idx) = xScale (X m c i) := by
  have h := congrFun (blocks6 m c t0 (flush0_6 t0)) (ix2 i 0 : S1024x1.Idx)
  rw [flushed6] at h
  rw [← xRow_iblk m c t0, ← emb6 t0 (ix2 i 0)]
  exact h.trans (Block.xScale_apply _ _ _ i)

end Cert.ReferenceIdeal.Array
-- ==== Proof.Equation.lean ====
module

public import proofs.«01_k».proof.Defs
public import proofs.«01_k».proof.Proof.KernelArray
public import proofs.«01_k».proof.Proof.RefArray

/-!
# The algebraic claim

Both programs first reshape the activations to 1024 rows and the weights' scales to one row. From equal
arguments they so work on equal rows, and each result array is the same row function of those rows.
-/

@[expose] public section
set_option maxRecDepth 65536
noncomputable section
namespace Cert.Equation
open Idealize.ShloMosaic Idealize.ShloMosaic.Tactic Idealize.ShloMosaic.TcCoe Idealize.SL.Sem
open Cert.Row

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-! ## What the reshapes leave -/

theorem kernel_x (c : Dev KernelIdeal.nD) : KernelIdeal.Gen.V m c KernelIdeal.main_v0
    = shapeCast KernelIdeal.S1024x4096 (m ((c.tc : Thread KernelIdeal.nD KernelIdeal.τ).loc KernelIdeal.main_arg0))
        KernelIdeal.Facts₀.shapeCasts_S2x512x4096_S1024x4096 := by
  show StableHlo.after KernelIdeal.Gen.hostOps0 (fun b => m (c, b)) _ = _
  after_results
  rfl

theorem kernel_s (c : Dev KernelIdeal.nD) : KernelIdeal.Gen.V m c KernelIdeal.main_v1
    = shapeCast KernelIdeal.S1x3584 (m ((c.tc : Thread KernelIdeal.nD KernelIdeal.τ).loc KernelIdeal.main_arg2))
        KernelIdeal.Facts₀.shapeCasts_S3584_S1x3584 := by
  show StableHlo.after KernelIdeal.Gen.hostOps0 (fun b => m (c, b)) _ = _
  after_results
  rfl

theorem reference_x (c : Dev ReferenceIdeal.nD) : ReferenceIdeal.Gen.V m' c ReferenceIdeal.main_v0
    = shapeCast ReferenceIdeal.S1024x4096 (m' ((c.tc : Thread ReferenceIdeal.nD ReferenceIdeal.τ).loc ReferenceIdeal.main_arg0))
        ReferenceIdeal.Facts₀.shapeCasts_S2x512x4096_S1024x4096 := by
  show StableHlo.after ReferenceIdeal.Gen.hostOps0 (fun b => m' (c, b)) _ = _
  after_results
  rfl

theorem reference_s (c : Dev ReferenceIdeal.nD) : ReferenceIdeal.Gen.V m' c ReferenceIdeal.main_v1
    = shapeCast ReferenceIdeal.S1x3584 (m' ((c.tc : Thread ReferenceIdeal.nD ReferenceIdeal.τ).loc ReferenceIdeal.main_arg2))
        ReferenceIdeal.Facts₀.shapeCasts_S3584_S1x3584 := by
  show StableHlo.after ReferenceIdeal.Gen.hostOps0 (fun b => m' (c, b)) _ = _
  after_results
  rfl

/-! ## From equal arguments, equal rows -/

section Rows
variable (c : Dev KernelIdeal.nD)

theorem x_eq (h : m' ((c.tc : Thread ReferenceIdeal.nD ReferenceIdeal.τ).loc ReferenceIdeal.main_arg0)
      = m ((c.tc : Thread KernelIdeal.nD KernelIdeal.τ).loc KernelIdeal.main_arg0)) :
    ReferenceIdeal.Array.X m' c = KernelIdeal.Array.X m c := by
  funext i k
  unfold ReferenceIdeal.Array.X KernelIdeal.Array.X
  rw [reference_x, kernel_x, h]

theorem w_eq (h : m' ((c.tc : Thread ReferenceIdeal.nD ReferenceIdeal.τ).loc ReferenceIdeal.main_arg1)
      = m ((c.tc : Thread KernelIdeal.nD KernelIdeal.τ).loc KernelIdeal.main_arg1)) :
    ReferenceIdeal.Array.W m' c = KernelIdeal.Array.W m c := by
  funext k j
  unfold ReferenceIdeal.Array.W KernelIdeal.Array.W
  rw [ReferenceIdeal.Gen.V_main_arg1, KernelIdeal.Gen.V_main_arg1, h]

theorem s_eq (h : m' ((c.tc : Thread ReferenceIdeal.nD ReferenceIdeal.τ).loc ReferenceIdeal.main_arg2)
      = m ((c.tc : Thread KernelIdeal.nD KernelIdeal.τ).loc KernelIdeal.main_arg2)) :
    ReferenceIdeal.Array.S m' c = KernelIdeal.Array.S m c := by
  funext j
  unfold ReferenceIdeal.Array.S KernelIdeal.Array.S
  rw [reference_s, kernel_s, h]

end Rows

/-! ## Equal results -/

/-- An index of an array with one column is its row, at column 0. -/
theorem eta1 {a : Nat} (i : (⟨2, ![a, 1]⟩ : Shape).Idx) : i = ix2 (i 0) 0 := by
  funext x
  match x with
  | ⟨0, _⟩ => rfl
  | ⟨1, _⟩ => exact Fin.ext (by have h : (i 1).val < 1 := (i 1).isLt; show (i 1).val = 0; omega)

section Results
variable (c : Dev KernelIdeal.nD)
  (h0 : m' ((c.tc : Thread ReferenceIdeal.nD ReferenceIdeal.τ).loc ReferenceIdeal.main_arg0)
      = m ((c.tc : Thread KernelIdeal.nD KernelIdeal.τ).loc KernelIdeal.main_arg0))
  (h1 : m' ((c.tc : Thread ReferenceIdeal.nD ReferenceIdeal.τ).loc ReferenceIdeal.main_arg1)
      = m ((c.tc : Thread KernelIdeal.nD KernelIdeal.τ).loc KernelIdeal.main_arg1))
  (h2 : m' ((c.tc : Thread ReferenceIdeal.nD ReferenceIdeal.τ).loc ReferenceIdeal.main_arg2)
      = m ((c.tc : Thread KernelIdeal.nD KernelIdeal.τ).loc KernelIdeal.main_arg2))
include h0 h1 h2

/-- The gated product's scales agree. -/
theorem result0 : (ReferenceIdeal.Gen.dats m' 0 c).arrAt 3 ReferenceIdeal.cfg0.N
    = (KernelIdeal.Gen.dats m 0 c).arrAt 3 KernelIdeal.cfg0.N := by
  refine funext fun (i : ReferenceIdeal.S1024x1.Idx) => ?_
  rw [eta1 i]
  refine (ReferenceIdeal.Array.hScale_apply m' c _).trans (Eq.trans ?_ (KernelIdeal.Array.hScale_apply m c _).symm)
  rw [x_eq m m' c h0, w_eq m m' c h1, s_eq m m' c h2]

/-- The gated product's codes agree. -/
theorem result1 : (ReferenceIdeal.Gen.dats m' 0 c).arrAt 4 ReferenceIdeal.cfg0.N
    = (KernelIdeal.Gen.dats m 0 c).arrAt 4 KernelIdeal.cfg0.N := by
  refine funext fun (i : ReferenceIdeal.S1024x1792.Idx) => ?_
  rw [eq_ix2 i]
  refine (ReferenceIdeal.Array.hCode_apply m' c _ _).trans (Eq.trans ?_ (KernelIdeal.Array.hCode_apply m c _ _).symm)
  rw [x_eq m m' c h0, w_eq m m' c h1, s_eq m m' c h2]

omit h1 h2 in
/-- The activations' codes agree. -/
theorem result2 : (ReferenceIdeal.Gen.dats m' 0 c).arrAt 5 ReferenceIdeal.cfg0.N
    = (KernelIdeal.Gen.dats m 0 c).arrAt 5 KernelIdeal.cfg0.N := by
  refine funext fun (i : ReferenceIdeal.S1024x4096.Idx) => ?_
  rw [eq_ix2 i]
  refine (ReferenceIdeal.Array.xCode_apply m' c _ _).trans (Eq.trans ?_ (KernelIdeal.Array.xCode_apply m c _ _).symm)
  rw [x_eq m m' c h0]

omit h1 h2 in
/-- The activations' scales agree. -/
theorem result3 : (ReferenceIdeal.Gen.dats m' 0 c).arrAt 6 ReferenceIdeal.cfg0.N
    = (KernelIdeal.Gen.dats m 0 c).arrAt 6 KernelIdeal.cfg0.N := by
  refine funext fun (i : ReferenceIdeal.S1024x1.Idx) => ?_
  rw [eta1 i]
  refine (ReferenceIdeal.Array.xScale_apply m' c _).trans (Eq.trans ?_ (KernelIdeal.Array.xScale_apply m c _).symm)
  rw [x_eq m m' c h0]

end Results

/-- The kernel and the reference end with the same four results at the ideal instance. -/
theorem algebraic : Cert.algebraic_KernelIdeal_ReferenceIdeal
    (hKernelIdeal := KernelIdeal.Gen.facts) (hReferenceIdeal := ReferenceIdeal.Gen.facts) := by
  intro m g m' g' _ hargs
  refine ⟨fun c => (KernelIdeal.Gen.dats m 0 c).arrAt 3 KernelIdeal.cfg0.N,
    fun c => (KernelIdeal.Gen.dats m 0 c).arrAt 4 KernelIdeal.cfg0.N,
    fun c => (KernelIdeal.Gen.dats m 0 c).arrAt 5 KernelIdeal.cfg0.N,
    fun c => (KernelIdeal.Gen.dats m 0 c).arrAt 6 KernelIdeal.cfg0.N,
    KernelIdeal.Value.run_blocks m g,
    (θ_run ReferenceIdeal.defs _ _).mono (fun r h c => ?_) (ReferenceIdeal.Value.run_blocks m' g')⟩
  obtain ⟨h0, h1, h2⟩ := hargs c
  obtain ⟨r0, r1, r2, r3, k⟩ := h c
  exact ⟨r0.trans (result0 m m' c h0 h1 h2), r1.trans (result1 m m' c h0 h1 h2), r2.trans (result2 m m' c h0),
    r3.trans (result3 m m' c h0), k⟩

end Cert.Equation
-- ==== Proof.lean ====
/- The claims of this certificate, assembled. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Cert.Equation.algebraic⟩

end Cert.Proof

end
